-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3 : Shape := ⟨3, ![2, 128, 3]⟩
abbrev S2x128 : Shape := ⟨2, ![2, 128]⟩
abbrev S3x16384 : Shape := ⟨2, ![3, 16384]⟩
abbrev S16384 : Shape := ⟨1, ![16384]⟩
abbrev S16384x2560 : Shape := ⟨2, ![16384, 2560]⟩
abbrev S512x2560 : Shape := ⟨2, ![512, 2560]⟩
abbrev S2560 : Shape := ⟨1, ![2560]⟩
abbrev S2560x16384 : Shape := ⟨2, ![2560, 16384]⟩
abbrev S80x16384 : Shape := ⟨2, ![80, 16384]⟩
abbrev S1 : Shape := ⟨1, ![1]⟩
abbrev S256x3 : Shape := ⟨2, ![256, 3]⟩
abbrev S1x16384 : Shape := ⟨2, ![1, 16384]⟩
abbrev S1x2560 : Shape := ⟨2, ![1, 2560]⟩
abbrev S1280x2560 : Shape := ⟨2, ![1280, 2560]⟩
abbrev S3x512 : Shape := ⟨2, ![3, 512]⟩
abbrev S1x512 : Shape := ⟨2, ![1, 512]⟩
abbrev S16x2560 : Shape := ⟨2, ![16, 2560]⟩
abbrev S1280x512 : Shape := ⟨2, ![1280, 512]⟩
abbrev S256x1 : Shape := ⟨2, ![256, 1]⟩
abbrev S256x512 : Shape := ⟨2, ![256, 512]⟩
abbrev S512x512 : Shape := ⟨2, ![512, 512]⟩
abbrev S16x512 : Shape := ⟨2, ![16, 512]⟩
abbrev S16x32x512 : Shape := ⟨3, ![16, 32, 512]⟩
abbrev S16x1x512 : Shape := ⟨3, ![16, 1, 512]⟩
abbrev S1x1 : Shape := ⟨2, ![1, 1]⟩
abbrev S256x128 : Shape := ⟨2, ![256, 128]⟩
abbrev S256x16384 : Shape := ⟨2, ![256, 16384]⟩
abbrev S2560x512 : Shape := ⟨2, ![2560, 512]⟩
abbrev S80x512 : Shape := ⟨2, ![80, 512]⟩
abbrev S2560x256 : Shape := ⟨2, ![2560, 256]⟩
abbrev S80x256 : Shape := ⟨2, ![80, 256]⟩
abbrev S80x32x256 : Shape := ⟨3, ![80, 32, 256]⟩
abbrev S80x1x256 : Shape := ⟨3, ![80, 1, 256]⟩
abbrev S1280x256 : Shape := ⟨2, ![1280, 256]⟩
abbrev S256x256 : Shape := ⟨2, ![256, 256]⟩
abbrev S1x256 : Shape := ⟨2, ![1, 256]⟩
abbrev S256 : Shape := ⟨1, ![256]⟩
abbrev S2x128x16384 : Shape := ⟨3, ![2, 128, 16384]⟩

abbrev nBuf : Space → Nat
  | .hbm => 33
  | .vmem => 31
  | .smem => 1
  | _ => 0

abbrev bufTy : (tb : Table) → Fin (tcTables nBuf tb) → BufTy
  | .hbm, ⟨0, _⟩ => ⟨S2x128x3, .f32⟩
  | .hbm, ⟨1, _⟩ => ⟨S2x128, .f32⟩
  | .hbm, ⟨2, _⟩ => ⟨S3x16384, .f32⟩
  | .hbm, ⟨3, _⟩ => ⟨S16384, .f32⟩
  | .hbm, ⟨4, _⟩ => ⟨S16384x2560, .fp8e4m3⟩
  | .hbm, ⟨5, _⟩ => ⟨S512x2560, .f32⟩
  | .hbm, ⟨6, _⟩ => ⟨S2560, .f32⟩
  | .hbm, ⟨7, _⟩ => ⟨S2560x16384, .fp8e4m3⟩
  | .hbm, ⟨8, _⟩ => ⟨S80x16384, .f32⟩
  | .hbm, ⟨9, _⟩ => ⟨S16384, .f32⟩
  | .hbm, ⟨10, _⟩ => ⟨S16384, .f32⟩
  | .hbm, ⟨11, _⟩ => ⟨S1, .f32⟩
  | .hbm, ⟨12, _⟩ => ⟨S256x3, .f32⟩
  | .hbm, ⟨13, _⟩ => ⟨S1x16384, .f32⟩
  | .hbm, ⟨14, _⟩ => ⟨S1x2560, .f32⟩
  | .hbm, ⟨15, _⟩ => ⟨S1280x2560, .bf16⟩
  | .hbm, ⟨16, _⟩ => ⟨S1x16384, .f32⟩
  | .hbm, ⟨17, _⟩ => ⟨S1x16384, .f32⟩
  | .hbm, ⟨18, _⟩ => ⟨S256x1, .f32⟩
  | .hbm, ⟨19, _⟩ => ⟨S1x1, .f32⟩
  | .hbm, ⟨20, _⟩ => ⟨S256x128, .f32⟩
  | .hbm, ⟨21, _⟩ => ⟨S256x128, .f32⟩
  | .hbm, ⟨22, _⟩ => ⟨S256x16384, .f32⟩
  | .hbm, ⟨23, _⟩ => ⟨S256x16384, .f32⟩
  | .hbm, ⟨24, _⟩ => ⟨S256x1, .f32⟩
  | .hbm, ⟨25, _⟩ => ⟨S256, .f32⟩
  | .hbm, ⟨26, _⟩ => ⟨S2x128, .f32⟩
  | .hbm, ⟨27, _⟩ => ⟨S256x1, .f32⟩
  | .hbm, ⟨28, _⟩ => ⟨S256, .f32⟩
  | .hbm, ⟨29, _⟩ => ⟨S2x128, .f32⟩
  | .hbm, ⟨30, _⟩ => ⟨S2x128, .bf16⟩
  | .hbm, ⟨31, _⟩ => ⟨S2x128x16384, .f32⟩
  | .hbm, ⟨32, _⟩ => ⟨S2x128x16384, .f32⟩
  | .local _ .vmem, ⟨0, _⟩ => ⟨S256x3, .f32⟩
  | .local _ .vmem, ⟨1, _⟩ => ⟨S3x512, .f32⟩
  | .local _ .vmem, ⟨2, _⟩ => ⟨S3x512, .f32⟩
  | .local _ .vmem, ⟨3, _⟩ => ⟨S1x512, .f32⟩
  | .local _ .vmem, ⟨4, _⟩ => ⟨S1x512, .f32⟩
  | .local _ .vmem, ⟨5, _⟩ => ⟨S512x2560, .fp8e4m3⟩
  | .local _ .vmem, ⟨6, _⟩ => ⟨S512x2560, .fp8e4m3⟩
  | .local _ .vmem, ⟨7, _⟩ => ⟨S16x2560, .f32⟩
  | .local _ .vmem, ⟨8, _⟩ => ⟨S16x2560, .f32⟩
  | .local _ .vmem, ⟨9, _⟩ => ⟨S1x2560, .f32⟩
  | .local _ .vmem, ⟨10, _⟩ => ⟨S1280x2560, .bf16⟩
  | .local _ .vmem, ⟨11, _⟩ => ⟨S1280x2560, .f32⟩
  | .local _ .vmem, ⟨12, _⟩ => ⟨S1280x512, .bf16⟩
  | .local _ .vmem, ⟨13, _⟩ => ⟨S1280x2560, .bf16⟩
  | .local _ .vmem, ⟨14, _⟩ => ⟨S2560x512, .fp8e4m3⟩
  | .local _ .vmem, ⟨15, _⟩ => ⟨S2560x512, .fp8e4m3⟩
  | .local _ .vmem, ⟨16, _⟩ => ⟨S80x512, .f32⟩
  | .local _ .vmem, ⟨17, _⟩ => ⟨S80x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S256x1, .f32⟩
  | .local _ .vmem, ⟨23, _⟩ => ⟨S256x128, .f32⟩
  | .local _ .vmem, ⟨24, _⟩ => ⟨S256x128, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x128, .f32⟩
  | .local _ .vmem, ⟨30, _⟩ => ⟨S256x128, .f32⟩
  | .local _ .smem, ⟨0, _⟩ => ⟨S1x1, .f32⟩
  | _, _ => ⟨S2x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc1_scratch0 : Ref sig .tc := ⟨.vmem, 29, rfl⟩
abbrev cc1_scratch1 : Ref sig .tc := ⟨.vmem, 30, rfl⟩
abbrev cc1_stg6_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v156 : BitVec 1 := Scalar.cmpi .eq arg0 c31_i32
  let v157 : BitVec 32 := Scalar.extui v156
  let c0_i32_66 : BitVec 32 := 0#32
  let v158 : BitVec 1 := Scalar.cmpi .ne v157 c0_i32_66
  v158

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v123 : BitVec 1 := Scalar.cmpi .eq arg0 c31_i32
  let v124 : BitVec 32 := Scalar.extui v123
  let c0_i32_48 : BitVec 32 := 0#32
  let v125 : BitVec 1 := Scalar.cmpi .ne v124 c0_i32_48
  v125

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1280x2560 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2560x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S80x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S2x128x3 : Shape := ⟨3, ![2, 128, 3]⟩
abbrev S2x128 : Shape := ⟨2, ![2, 128]⟩
abbrev S3x16384 : Shape := ⟨2, ![3, 16384]⟩
abbrev S16384 : Shape := ⟨1, ![16384]⟩
abbrev S16384x2560 : Shape := ⟨2, ![16384, 2560]⟩
abbrev S512x2560 : Shape := ⟨2, ![512, 2560]⟩
abbrev S2560 : Shape := ⟨1, ![2560]⟩
abbrev S2560x16384 : Shape := ⟨2, ![2560, 16384]⟩
abbrev S80x16384 : Shape := ⟨2, ![80, 16384]⟩
abbrev S1 : Shape := ⟨1, ![1]⟩
abbrev S256x3 : Shape := ⟨2, ![256, 3]⟩
abbrev S256x1 : Shape := ⟨2, ![256, 1]⟩
abbrev S1x16384 : Shape := ⟨2, ![1, 16384]⟩
abbrev S1x2560 : Shape := ⟨2, ![1, 2560]⟩
abbrev S1x1 : Shape := ⟨2, ![1, 1]⟩
abbrev S256x16384 : Shape := ⟨2, ![256, 16384]⟩
abbrev S512x32x2560 : Shape := ⟨3, ![512, 32, 2560]⟩
abbrev S512x1x2560 : Shape := ⟨3, ![512, 1, 2560]⟩
abbrev S256x2560 : Shape := ⟨2, ![256, 2560]⟩
abbrev S80x32x16384 : Shape := ⟨3, ![80, 32, 16384]⟩
abbrev S80x1x16384 : Shape := ⟨3, ![80, 1, 16384]⟩
abbrev S256 : Shape := ⟨1, ![256]⟩
abbrev S2x128x16384 : Shape := ⟨3, ![2, 128, 16384]⟩

abbrev nBuf : Space → Nat
  | .hbm => 27
  | .vmem => 16
  | .smem => 0
  | _ => 0

abbrev bufTy : (tb : Table) → Fin (tcTables nBuf tb) → BufTy
  | .hbm, ⟨0, _⟩ => ⟨S2x128x3, .f32⟩
  | .hbm, ⟨1, _⟩ => ⟨S2x128, .f32⟩
  | .hbm, ⟨2, _⟩ => ⟨S3x16384, .f32⟩
  | .hbm, ⟨3, _⟩ => ⟨S16384, .f32⟩
  | .hbm, ⟨4, _⟩ => ⟨S16384x2560, .fp8e4m3⟩
  | .hbm, ⟨5, _⟩ => ⟨S512x2560, .f32⟩
  | .hbm, ⟨6, _⟩ => ⟨S2560, .f32⟩
  | .hbm, ⟨7, _⟩ => ⟨S2560x16384, .fp8e4m3⟩
  | .hbm, ⟨8, _⟩ => ⟨S80x16384, .f32⟩
  | .hbm, ⟨9, _⟩ => ⟨S16384, .f32⟩
  | .hbm, ⟨10, _⟩ => ⟨S16384, .f32⟩
  | .hbm, ⟨11, _⟩ => ⟨S1, .f32⟩
  | .hbm, ⟨12, _⟩ => ⟨S256x3, .f32⟩
  | .hbm, ⟨13, _⟩ => ⟨S256x1, .f32⟩
  | .hbm, ⟨14, _⟩ => ⟨S1x16384, .f32⟩
  | .hbm, ⟨15, _⟩ => ⟨S1x2560, .f32⟩
  | .hbm, ⟨16, _⟩ => ⟨S1x16384, .f32⟩
  | .hbm, ⟨17, _⟩ => ⟨S1x16384, .f32⟩
  | .hbm, ⟨18, _⟩ => ⟨S1x1, .f32⟩
  | .hbm, ⟨19, _⟩ => ⟨S256x1, .f32⟩
  | .hbm, ⟨20, _⟩ => ⟨S256x1, .bf16⟩
  | .hbm, ⟨21, _⟩ => ⟨S256x16384, .f32⟩
  | .hbm, ⟨22, _⟩ => ⟨S256x16384, .f32⟩
  | .hbm, ⟨23, _⟩ => ⟨S2x128, .f32⟩
  | .hbm, ⟨24, _⟩ => ⟨S2x128, .bf16⟩
  | .hbm, ⟨25, _⟩ => ⟨S2x128x16384, .f32⟩
  | .hbm, ⟨26, _⟩ => ⟨S2x128x16384, .f32⟩
  | .local _ .vmem, ⟨0, _⟩ => ⟨S256x3, .f32⟩
  | .local _ .vmem, ⟨1, _⟩ => ⟨S256x1, .f32⟩
  | .local _ .vmem, ⟨2, _⟩ => ⟨S3x16384, .f32⟩
  | .local _ .vmem, ⟨3, _⟩ => ⟨S1x16384, .f32⟩
  | .local _ .vmem, ⟨4, _⟩ => ⟨S16384x2560, .fp8e4m3⟩
  | .local _ .vmem, ⟨5, _⟩ => ⟨S512x2560, .f32⟩
  | .local _ .vmem, ⟨6, _⟩ => ⟨S1x2560, .f32⟩
  | .local _ .vmem, ⟨7, _⟩ => ⟨S2560x16384, .fp8e4m3⟩
  | .local _ .vmem, ⟨8, _⟩ => ⟨S80x16384, .f32⟩
  | .local _ .vmem, ⟨9, _⟩ => ⟨S1x16384, .f32⟩
  | .local _ .vmem, ⟨10, _⟩ => ⟨S1x16384, .f32⟩
  | .local _ .vmem, ⟨11, _⟩ => ⟨S1x1, .f32⟩
  | .local _ .vmem, ⟨12, _⟩ => ⟨S256x1, .f32⟩
  | .local _ .vmem, ⟨13, _⟩ => ⟨S256x1, .bf16⟩
  | .local _ .vmem, ⟨14, _⟩ => ⟨S256x16384, .f32⟩
  | .local _ .vmem, ⟨15, _⟩ => ⟨S256x16384, .f32⟩
  | _, _ => ⟨S2x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S256x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560x16384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S80x16384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x16384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x16384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Kernel.Layer1Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the contents of the core's buffers when the layer's call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 6, through which its contents are stated (`View.read_writes_of_cover`: the
    choice does not matter). -/
abbrev VO0_6 : View sig .tc .vmem S1280x2560 .bf16 := (Memref.whole cc0_stg6_0 : Memref sig .tc .vmem S1280x2560 .bf16).view
/-- Each window's current staging memref at point `t`, spelled as the pipeline passes it (`bodyAt0`), and its wholeness. -/
abbrev ms0_0 (t : Fin cfg0.N) : Memref sig .tc .vmem S256x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x2560 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1280x2560 .f32 := Memref.whole cc0_scratch0
abbrev scM0_1 : Memref sig .tc .vmem S1280x512 .bf16 := Memref.whole cc0_scratch1
/-- The scratch `arg8` the kernel carries between points, as a view: what it holds is stated through it. -/
abbrev VS0_0 : View sig .tc .vmem S1280x2560 .f32 := scM0_0.view

/-- The scoped buffers of the other layer, each at some contents: this layer's body leaves them alone. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_stg6_0), ((c : Thread nD τ).loc cc1_stg6_0) ↦{fullShare} f))

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each buffer it writes, as pieces, at the first point, with the proof that from the inputs
    at their contents the body runs and hands every buffer back: the inputs as they were, the written ones with their
    pieces written. -/
noncomputable def kernelRun0_A (c : Dev nD) (i : grid0.Coords) (arg1 : Memref sig .tc .vmem S256x3 .f32) (harg1 : arg1.IsWhole) (arg2 : Memref sig .tc .vmem S3x512 .f32) (harg2 : arg2.IsWhole) (arg3 : Memref sig .tc .vmem S1x512 .f32) (harg3 : arg3.IsWhole) (arg4 : Memref sig .tc .vmem S512x2560 .fp8e4m3) (harg4 : arg4.IsWhole) (arg5 : Memref sig .tc .vmem S16x2560 .f32) (harg5 : arg5.IsWhole) (arg6 : Memref sig .tc .vmem S1x2560 .f32) (harg6 : arg6.IsWhole) (arg7 : Memref sig .tc .vmem S1280x2560 .bf16) (harg7 : arg7.IsWhole) (arg8 : Memref sig .tc .vmem S1280x2560 .f32) (harg8 : arg8.IsWhole) (arg9 : Memref sig .tc .vmem S1280x512 .bf16) (harg9 : arg9.IsWhole) (hc0 : cond0_0 i) (hc1 : ¬cond0_1 i)
    (x0 : Vec F S256x3 .f32) (x1 : Vec F S3x512 .f32) (x2 : Vec F S1x512 .f32) (x3 : Vec F S512x2560 .fp8e4m3) (x4 : Vec F S16x2560 .f32) (x5 : Vec F S1x2560 .f32) :
    Σ' (L6 : List (View.Piece (Elt F) S1280x2560 .bf16)), Σ' (LS0 : List (View.Piece (Elt F) S1280x2560 .f32)), { LT1 : List (View.Piece (Elt F) S1280x512 .bf16) //
      ∀ (xi6 : Vec F S1280x2560 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_layer1 i arg1 harg1 arg2 harg2 arg3 harg3 arg4 harg4 arg5 harg5 arg6 harg6 arg7 harg7 arg8 harg8 arg9 harg9) K } := by
  refine ⟨[], ?_, ?_, fun xi6 E K => ?run⟩
  case run =>
    simp only [cc0_layer1_eq_skeleton]; unfold cc0_layer1_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

/-- The run of case A at point `t`: on the point's staging buffers and the blocks they hold. -/
abbrev run0_A (c : Dev nD) (t : Fin cfg0.N) (hc0 : cond0_0 (grid0.coords t)) (hc1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t)

/-- Case A stores nothing into output 6 (the window is idle at its points and not written back there):
    no pieces — a placeholder (junk read back) that nothing consults, since at these points the window is neither
    written back nor read at the next point (Lib/Pipeline.lean "Idle points"). -/
def out0_A_6 (c : Dev nD) (t : Fin cfg0.N) (hc0 : cond0_0 (grid0.coords t)) (hc1 : ¬cond0_1 (grid0.coords t)) : Vec F S1280x2560 .bf16 :=
  VO0_6.read (Elt F) (VO0_6.writes (Elt F) VO0_6.junk (run0_A V c t hc0 hc1).1)

/-- Case A's pieces for scratch `arg8`, which the kernel carries between points, cover it: one of them a store of the WHOLE buffer (Lib/Ring.lean `sl_whole_mem`). -/
theorem scover0_A_0 (c : Dev nD) (t : Fin cfg0.N) (hc0 : cond0_0 (grid0.coords t)) (hc1 : ¬cond0_1 (grid0.coords t)) (y : S1280x2560.Idx) :
    ∃ pc ∈ (run0_A V c t hc0 hc1).2.1, y ∈ pc.1.set :=
  View.cover_of_wholeMem (run0_A V c t hc0 hc1).2.1 (by sl_whole_mem) y

/-- What case A leaves in scratch `arg8`: its pieces read back over junk. -/
def sout0_A_0 (c : Dev nD) (t : Fin cfg0.N) (hc0 : cond0_0 (grid0.coords t)) (hc1 : ¬cond0_1 (grid0.coords t)) : Vec F S1280x2560 .f32 :=
  VS0_0.read (Elt F) (VS0_0.writes (Elt F) VS0_0.junk (run0_A V c t hc0 hc1).2.1)

-- (the run's proof term is large: the definition's epilogue — `abstractNestedProofs` — walks it past the default budget)
set_option maxHeartbeats 1000000 in
/-- What the body's stores leave in each buffer it writes, as pieces, at a point between, with the proof that from the inputs
    at their contents the body runs and hands every buffer back: the inputs as they were, the written ones with their
    pieces written. -/
noncomputable def kernelRun0_B (c : Dev nD) (i : grid0.Coords) (arg1 : Memref sig .tc .vmem S256x3 .f32) (harg1 : arg1.IsWhole) (arg2 : Memref sig .tc .vmem S3x512 .f32) (harg2 : arg2.IsWhole) (arg3 : Memref sig .tc .vmem S1x512 .f32) (harg3 : arg3.IsWhole) (arg4 : Memref sig .tc .vmem S512x2560 .fp8e4m3) (harg4 : arg4.IsWhole) (arg5 : Memref sig .tc .vmem S16x2560 .f32) (harg5 : arg5.IsWhole) (arg6 : Memref sig .tc .vmem S1x2560 .f32) (harg6 : arg6.IsWhole) (arg7 : Memref sig .tc .vmem S1280x2560 .bf16) (harg7 : arg7.IsWhole) (arg8 : Memref sig .tc .vmem S1280x2560 .f32) (harg8 : arg8.IsWhole) (arg9 : Memref sig .tc .vmem S1280x512 .bf16) (harg9 : arg9.IsWhole) (hc0 : ¬cond0_0 i) (hc1 : ¬cond0_1 i)
    (x0 : Vec F S256x3 .f32) (x1 : Vec F S3x512 .f32) (x2 : Vec F S1x512 .f32) (x3 : Vec F S512x2560 .fp8e4m3) (x4 : Vec F S16x2560 .f32) (x5 : Vec F S1x2560 .f32) (xs0 : Vec F S1280x2560 .f32) :
    Σ' (L6 : List (View.Piece (Elt F) S1280x2560 .bf16)), Σ' (LS0 : List (View.Piece (Elt F) S1280x2560 .f32)), { LT1 : List (View.Piece (Elt F) S1280x512 .bf16) //
      ∀ (xi6 : Vec F S1280x2560 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_layer1 i arg1 harg1 arg2 harg2 arg3 harg3 arg4 harg4 arg5 harg5 arg6 harg6 arg7 harg7 arg8 harg8 arg9 harg9) K } := by
  refine ⟨[], ?_, ?_, fun xi6 E K => ?run⟩
  case run =>
    simp only [cc0_layer1_eq_skeleton]; unfold cc0_layer1_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

/-- The run of case B at point `t`: on the point's staging buffers and the blocks they hold. -/
abbrev run0_B (c : Dev nD) (t : Fin cfg0.N) (hc0 : ¬cond0_0 (grid0.coords t)) (hc1 : ¬cond0_1 (grid0.coords t)) (xs0 : Vec F S1280x2560 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) xs0

/-- Case B stores nothing into output 6 (the window is idle at its points and not written back there):
    no pieces — a placeholder (junk read back) that nothing consults, since at these points the window is neither
    written back nor read at the next point (Lib/Pipeline.lean "Idle points"). -/
def out0_B_6 (c : Dev nD) (t : Fin cfg0.N) (hc0 : ¬cond0_0 (grid0.coords t)) (hc1 : ¬cond0_1 (grid0.coords t)) (xs0 : Vec F S1280x2560 .f32) : Vec F S1280x2560 .bf16 :=
  VO0_6.read (Elt F) (VO0_6.writes (Elt F) VO0_6.junk (run0_B V c t hc0 hc1 xs0).1)

/-- Case B's pieces for scratch `arg8`, which the kernel carries between points, cover it: 5 pieces of `S1280x512` tiling it (Lib/Ring.lean `Piece.tiledL`). -/
theorem scover0_B_0 (c : Dev nD) (t : Fin cfg0.N) (hc0 : ¬cond0_0 (grid0.coords t)) (hc1 : ¬cond0_1 (grid0.coords t)) (xs0 : Vec F S1280x2560 .f32) (y : S1280x2560.Idx) :
    ∃ pc ∈ (run0_B V c t hc0 hc1 xs0).2.1, y ∈ pc.1.set :=
  View.cover_of_tiledL (run0_B V c t hc0 hc1 xs0).2.1 S1280x512.size (by sl_kernel_rfl) y

/-- What case B leaves in scratch `arg8`: its pieces read back over junk. -/
def sout0_B_0 (c : Dev nD) (t : Fin cfg0.N) (hc0 : ¬cond0_0 (grid0.coords t)) (hc1 : ¬cond0_1 (grid0.coords t)) (xs0 : Vec F S1280x2560 .f32) : Vec F S1280x2560 .f32 :=
  VS0_0.read (Elt F) (VS0_0.writes (Elt F) VS0_0.junk (run0_B V c t hc0 hc1 xs0).2.1)

-- (the run's proof term is large: the definition's epilogue — `abstractNestedProofs` — walks it past the default budget)
set_option maxHeartbeats 1000000 in
/-- What the body's stores leave in each buffer it writes, as pieces, at the last point, with the proof that from the inputs
    at their contents the body runs and hands every buffer back: the inputs as they were, the written ones with their
    pieces written. -/
noncomputable def kernelRun0_C (c : Dev nD) (i : grid0.Coords) (arg1 : Memref sig .tc .vmem S256x3 .f32) (harg1 : arg1.IsWhole) (arg2 : Memref sig .tc .vmem S3x512 .f32) (harg2 : arg2.IsWhole) (arg3 : Memref sig .tc .vmem S1x512 .f32) (harg3 : arg3.IsWhole) (arg4 : Memref sig .tc .vmem S512x2560 .fp8e4m3) (harg4 : arg4.IsWhole) (arg5 : Memref sig .tc .vmem S16x2560 .f32) (harg5 : arg5.IsWhole) (arg6 : Memref sig .tc .vmem S1x2560 .f32) (harg6 : arg6.IsWhole) (arg7 : Memref sig .tc .vmem S1280x2560 .bf16) (harg7 : arg7.IsWhole) (arg8 : Memref sig .tc .vmem S1280x2560 .f32) (harg8 : arg8.IsWhole) (arg9 : Memref sig .tc .vmem S1280x512 .bf16) (harg9 : arg9.IsWhole) (hc0 : ¬cond0_0 i) (hc1 : cond0_1 i)
    (x0 : Vec F S256x3 .f32) (x1 : Vec F S3x512 .f32) (x2 : Vec F S1x512 .f32) (x3 : Vec F S512x2560 .fp8e4m3) (x4 : Vec F S16x2560 .f32) (x5 : Vec F S1x2560 .f32) (xs0 : Vec F S1280x2560 .f32) :
    Σ' (L6 : List (View.Piece (Elt F) S1280x2560 .bf16)), Σ' (LS0 : List (View.Piece (Elt F) S1280x2560 .f32)), { LT1 : List (View.Piece (Elt F) S1280x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_layer1 i arg1 harg1 arg2 harg2 arg3 harg3 arg4 harg4 arg5 harg5 arg6 harg6 arg7 harg7 arg8 harg8 arg9 harg9) K } := by
  refine ⟨?_, ?_, ?_, fun E K => ?run⟩
  case run =>
    simp only [cc0_layer1_eq_skeleton]; unfold cc0_layer1_skel
    simp only [k0_part6_eq_skeleton, k0_part7_eq_skeleton, k0_part8_eq_skeleton, k0_part9_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

/-- The run of case C at point `t`: on the point's staging buffers and the blocks they hold. -/
abbrev run0_C (c : Dev nD) (t : Fin cfg0.N) (hc0 : ¬cond0_0 (grid0.coords t)) (hc1 : cond0_1 (grid0.coords t)) (xs0 : Vec F S1280x2560 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) xs0

/-- Case C's pieces for output 6 tile its block (25 stores of `S256x512`, checked by the kernel's evaluation: Lib/Ring.lean `Piece.tiledL`, linear in the pieces, through a loop's `@[irreducible]` trip theorem too), so they cover it. -/
theorem cover0_C_6 (c : Dev nD) (t : Fin cfg0.N) (hc0 : ¬cond0_0 (grid0.coords t)) (hc1 : cond0_1 (grid0.coords t)) (xs0 : Vec F S1280x2560 .f32) (y : S1280x2560.Idx) :
    ∃ pc ∈ (run0_C V c t hc0 hc1 xs0).1, y ∈ pc.1.set :=
  View.cover_of_tiledL (run0_C V c t hc0 hc1 xs0).1 S256x512.size (by sl_kernel_rfl) y

/-- What case C leaves in output 6's staging buffer: its pieces read back over junk. -/
def out0_C_6 (c : Dev nD) (t : Fin cfg0.N) (hc0 : ¬cond0_0 (grid0.coords t)) (hc1 : cond0_1 (grid0.coords t)) (xs0 : Vec F S1280x2560 .f32) : Vec F S1280x2560 .bf16 :=
  VO0_6.read (Elt F) (VO0_6.writes (Elt F) VO0_6.junk (run0_C V c t hc0 hc1 xs0).1)

/-- Case C's pieces for scratch `arg8`, which the kernel carries between points, cover it: 5 pieces of `S1280x512` tiling it (Lib/Ring.lean `Piece.tiledL`). -/
theorem scover0_C_0 (c : Dev nD) (t : Fin cfg0.N) (hc0 : ¬cond0_0 (grid0.coords t)) (hc1 : cond0_1 (grid0.coords t)) (xs0 : Vec F S1280x2560 .f32) (y : S1280x2560.Idx) :
    ∃ pc ∈ (run0_C V c t hc0 hc1 xs0).2.1, y ∈ pc.1.set :=
  View.cover_of_tiledL (run0_C V c t hc0 hc1 xs0).2.1 S1280x512.size (by sl_kernel_rfl) y

/-- What case C leaves in scratch `arg8`: its pieces read back over junk. -/
def sout0_C_0 (c : Dev nD) (t : Fin cfg0.N) (hc0 : ¬cond0_0 (grid0.coords t)) (hc1 : cond0_1 (grid0.coords t)) (xs0 : Vec F S1280x2560 .f32) : Vec F S1280x2560 .f32 :=
  VS0_0.read (Elt F) (VS0_0.writes (Elt F) VS0_0.junk (run0_C V c t hc0 hc1 xs0).2.1)

end Cert.Kernel.Whole

end
-- ==== Proof.Kernel.Layer1.lean ====
module

public import proofs.«01_k».proof.Proof.Kernel.Layer1Runs

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the contents of the core's buffers when the layer's call is entered
variable (V : (c : Dev nD) → (b : Ref sig .tc) → Buf (Elt F) ((c : Thread nD τ).loc b))

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x2560 .bf16 × Vec F S1280x2560 .f32
  | 0, hn => (out0_A_6 V c ⟨0, hn⟩ ((hcond0_0 ⟨0, hn⟩).mpr (Nat.zero_mod _)) (fun h => (fun h => by (try dsimp only at h); omega) ((hcond0_1 ⟨0, hn⟩).mp h)), sout0_A_0 V c ⟨0, hn⟩ ((hcond0_0 ⟨0, hn⟩).mpr (Nat.zero_mod _)) (fun h => (fun h => by (try dsimp only at h); omega) ((hcond0_1 ⟨0, hn⟩).mp h)))
  | n + 1, hn =>
    if h0 : (n + 1) % 32 = 0 then
      if h1 : (n + 1) % 32 = 31 then
        False.elim (by have hN : n + 1 < 32 := lt_of_lt_of_eq hn (show cfg0.N = 32 from N_0); omega)
      else
        (out0_A_6 V c ⟨n + 1, hn⟩ ((hcond0_0 ⟨n + 1, hn⟩).mpr h0) (fun h => h1 ((hcond0_1 ⟨n + 1, hn⟩).mp h)), sout0_A_0 V c ⟨n + 1, hn⟩ ((hcond0_0 ⟨n + 1, hn⟩).mpr h0) (fun h => h1 ((hcond0_1 ⟨n + 1, hn⟩).mp h)))
    else
      if h1 : (n + 1) % 32 = 31 then
        (out0_C_6 V c ⟨n + 1, hn⟩ (fun h => h0 ((hcond0_0 ⟨n + 1, hn⟩).mp h)) ((hcond0_1 ⟨n + 1, hn⟩).mpr h1) (outsAt0 c n (Nat.lt_of_succ_lt hn)).2, sout0_C_0 V c ⟨n + 1, hn⟩ (fun h => h0 ((hcond0_0 ⟨n + 1, hn⟩).mp h)) ((hcond0_1 ⟨n + 1, hn⟩).mpr h1) (outsAt0 c n (Nat.lt_of_succ_lt hn)).2)
      else
        (out0_B_6 V c ⟨n + 1, hn⟩ (fun h => h0 ((hcond0_0 ⟨n + 1, hn⟩).mp h)) (fun h => h1 ((hcond0_1 ⟨n + 1, hn⟩).mp h)) (outsAt0 c n (Nat.lt_of_succ_lt hn)).2, sout0_B_0 V c ⟨n + 1, hn⟩ (fun h => h0 ((hcond0_0 ⟨n + 1, hn⟩).mp h)) (fun h => h1 ((hcond0_1 ⟨n + 1, hn⟩).mp h)) (outsAt0 c n (Nat.lt_of_succ_lt hn)).2)

/-- `outsAt0` at a point of case A: that case's contents. -/
theorem outsAt0_A (c : Dev nD) (t : Fin cfg0.N) (h0 : t.val % 32 = 0) (h1 : ¬t.val % 32 = 31) :
    outsAt0 V c t.val t.isLt = (out0_A_6 V c t ((hcond0_0 t).mpr h0) (fun h => h1 ((hcond0_1 t).mp h)), sout0_A_0 V c t ((hcond0_0 t).mpr h0) (fun h => h1 ((hcond0_1 t).mp h))) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 V c t.val t.isLt = (out0_B_6 V c t (fun h => h0 ((hcond0_0 t).mp h)) (fun h => h1 ((hcond0_1 t).mp h)) (outsAt0 V c (t.val - 1) (Nat.lt_of_le_of_lt (Nat.sub_le _ _) t.isLt)).2, sout0_B_0 V c t (fun h => h0 ((hcond0_0 t).mp h)) (fun h => h1 ((hcond0_1 t).mp h)) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 V c t.val t.isLt = (out0_C_6 V c t (fun h => h0 ((hcond0_0 t).mp h)) ((hcond0_1 t).mpr h1) (outsAt0 V c (t.val - 1) (Nat.lt_of_le_of_lt (Nat.sub_le _ _) t.isLt)).2, sout0_C_0 V c t (fun h => h0 ((hcond0_0 t).mp h)) ((hcond0_1 t).mpr h1) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ d, owns (c : Thread nD τ) scM0_1 fullShare d) ∗ Rest0 c) ∗ (∃ r, prngReg c r))

theorem PhiS_zero0 (c : Dev nD) (n : ℕ) (h : n ≤ cfg0.N) (hz : n = 0) : PhiS0 V c n h = Pipeline.ΦA spec0 c := by
  subst hz; rfl

/-- After point `n` (before point `n + 1`): the carried scratch at that point's contents. -/
theorem PhiS_succ0 (c : Dev nD) (n : ℕ) (hn : n < cfg0.N) :
    PhiS0 V c (n + 1) hn = iprop(iprop(owns (c : Thread nD τ) scM0_0 fullShare ((outsAt0 V c n hn).2) ∗ (∃ d, owns (c : Thread nD τ) scM0_1 fullShare d) ∗ Rest0 c) ∗ (∃ r, prngReg c r)) := rfl

/-- Before a point that is not the first: the carried scratch at what the point before left. -/
theorem PhiS_pos0 (c : Dev nD) (n : ℕ) (h : n ≤ cfg0.N) (hz : n ≠ 0) :
    PhiS0 V c n h = iprop(iprop(owns (c : Thread nD τ) scM0_0 fullShare ((outsAt0 V c (n - 1) (by omega)).2) ∗ (∃ d, owns (c : Thread nD τ) scM0_1 fullShare d) ∗ Rest0 c) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc0 (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos0`; at anything at the first point, `PhiS_zero0`), the other scratch buffers and the generator register at some state, and takes the carried scratch back at this point's contents (`PhiS_succ0`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS_succ0]
  have hN : t.val < 32 := lt_of_lt_of_eq t.isLt (show cfg0.N = 32 from N_0)
  by_cases h0 : t.val % 32 = 0
  · by_cases h1 : t.val % 32 = 31
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      by_cases hz : t.val = 0
      · rw [PhiS_castSucc0 V c t, PhiS_zero0 V c _ _ hz, PhiA0_eq]
        rw [outsAt0_A V c t h0 h1]
        unfold sout0_A_0; (try dsimp only)
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((run0_A V c t ((hcond0_0 t).mpr h0) (fun h => h1 ((hcond0_1 t).mp h))).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%fT1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 V c t _ _)
            isplitl [HS1]
            · iexists _; unfold owns; iexists _; isplitr
              swap; · iexact HS1
              ipureintro; rfl
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · exfalso; have hN : t.val < 32 := lt_of_lt_of_eq t.isLt (show cfg0.N = 32 from N_0); omega
  · by_cases h1 : t.val % 32 = 31
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6_C t (fun h => h0 ((hcond0_0 t).mp h)) ((hcond0_1 t).mpr h1)], after0_6]
      by_cases hz : t.val = 0
      · exfalso; have hN : t.val < 32 := lt_of_lt_of_eq t.isLt (show cfg0.N = 32 from N_0); omega
      · rw [PhiS_castSucc0 V c t, PhiS_pos0 V c _ _ hz]
        rw [outsAt0_C V c t h0 h1]
        unfold out0_C_6 sout0_C_0; (try dsimp only)
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((run0_C V c t (fun h => h0 ((hcond0_0 t).mp h)) ((hcond0_1 t).mpr h1) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%fT1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 V c t _ _ _)
            isplitl [HS1]
            · iexists _; unfold owns; iexists _; isplitr
              swap; · iexact HS1
              ipureintro; rfl
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 V c t _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc0 V c t, PhiS_pos0 V c _ _ hz]
        rw [outsAt0_B V c t h0 h1]
        unfold sout0_B_0; (try dsimp only)
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((run0_B V c t (fun h => h0 ((hcond0_0 t).mp h)) (fun h => h1 ((hcond0_1 t).mp h)) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%fT1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 V c t _ _ _)
            isplitl [HS1]
            · iexists _; unfold owns; iexists _; isplitr
              swap; · iexact HS1
              ipureintro; rfl
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS_zero0 V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS_pos0 V c _ _ ht, PhiA0_eq]
  iintro ⟨⟨HS0, HS1, HR⟩, Hg⟩
  isplitl [HS0 HS1 HR]
  · isplitl [HS0]
    · iexists _; iexact HS0
    isplitl [HS1]
    · iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Whole

end
-- ==== Proof.Kernel.Layer2Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the contents of the core's buffers when the layer's call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, e0]
    word_cmp
   : ∀ t : Fin grid1.N, cond1_0 (grid1.coords t) ↔ t.val % 32 = 0)

/-- The condition of the body's `scf.if` 1 (`k1_h2`), from the grid coordinates (the skeleton's scalar
    chain substituted). -/
abbrev cond1_1 (i : grid1.Coords) : Prop := k1_cond2 i = 1#1
/-- It holds at the last point only — by arithmetic of the point. -/
theorem hcond1_1 : ∀ t : Fin cfg1.N, cond1_1 (grid1.coords t) ↔ t.val % 32 = 31 :=
  (fun t => by
    have ht : t.val < 32 := Nat.lt_of_lt_of_eq t.isLt N_1
    have e0 : (grid1.coords t 0).val = t.val / 1 % 32 := Pipeline.Grid.coords_val t 0 (by decide) rfl
    simp only [cond1_1, k1_cond2, e0]
    word_cmp
   : ∀ t : Fin grid1.N, cond1_1 (grid1.coords t) ↔ t.val % 32 = 31)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 9 is never idle (an output stored at every point, under no condition). -/
theorem liveAt1_9 : ∀ t : Fin cfg1.N, cfg1.idle 9 (grid1.coords t) = false := fun _ => rfl
/-- Window 10 is never idle (an output stored at every point, under no condition). -/
theorem liveAt1_10 : ∀ t : Fin cfg1.N, cfg1.idle 10 (grid1.coords t) = false := fun _ => rfl
/-- At the points of case A the printed configuration (`Cfg.idle`) calls output 7 idle: the case stores nothing into it. -/
theorem idleAt1_7_A : ∀ t : Fin cfg1.N, cond1_0 (grid1.coords t) → ¬cond1_1 (grid1.coords t) → cfg1.idle 7 (grid1.coords t) = true := by decide +kernel
/-- At the points of case A the pipeline does not write output 7's block back. -/
theorem noFlush1_7_A : ∀ t : Fin cfg1.N, cond1_0 (grid1.coords t) → ¬cond1_1 (grid1.coords t) → (cfg1.win 7).flush t = false := by decide +kernel
/-- At the points of case B the printed configuration (`Cfg.idle`) calls output 7 idle: the case stores nothing into it. -/
theorem idleAt1_7_B : ∀ t : Fin cfg1.N, ¬cond1_0 (grid1.coords t) → ¬cond1_1 (grid1.coords t) → cfg1.idle 7 (grid1.coords t) = true := by decide +kernel
/-- At the points of case B the pipeline does not write output 7's block back. -/
theorem noFlush1_7_B : ∀ t : Fin cfg1.N, ¬cond1_0 (grid1.coords t) → ¬cond1_1 (grid1.coords t) → (cfg1.win 7).flush t = false := by decide +kernel
/-- At the points of case C the printed configuration (`Cfg.idle`) calls output 7 live: the case stores into it. -/
theorem liveAt1_7_C : ∀ t : Fin cfg1.N, ¬cond1_0 (grid1.coords t) → cond1_1 (grid1.coords t) → cfg1.idle 7 (grid1.coords t) = false := by decide +kernel
/-- At the points of case A the printed configuration (`Cfg.idle`) calls output 8 idle: the case stores nothing into it. -/
theorem idleAt1_8_A : ∀ t : Fin cfg1.N, cond1_0 (grid1.coords t) → ¬cond1_1 (grid1.coords t) → cfg1.idle 8 (grid1.coords t) = true := by decide +kernel
/-- At the points of case A the pipeline does not write output 8's block back. -/
theorem noFlush1_8_A : ∀ t : Fin cfg1.N, cond1_0 (grid1.coords t) → ¬cond1_1 (grid1.coords t) → (cfg1.win 8).flush t = false := by decide +kernel
/-- At the points of case B the printed configuration (`Cfg.idle`) calls output 8 idle: the case stores nothing into it. -/
theorem idleAt1_8_B : ∀ t : Fin cfg1.N, ¬cond1_0 (grid1.coords t) → ¬cond1_1 (grid1.coords t) → cfg1.idle 8 (grid1.coords t) = true := by decide +kernel
/-- At the points of case B the pipeline does not write output 8's block back. -/
theorem noFlush1_8_B : ∀ t : Fin cfg1.N, ¬cond1_0 (grid1.coords t) → ¬cond1_1 (grid1.coords t) → (cfg1.win 8).flush t = false := by decide +kernel
/-- At the points of case C the printed configuration (`Cfg.idle`) calls output 8 live: the case stores into it. -/
theorem liveAt1_8_C : ∀ t : Fin cfg1.N, ¬cond1_0 (grid1.coords t) → cond1_1 (grid1.coords t) → cfg1.idle 8 (grid1.coords t) = false := by decide +kernel

/-! ## The kernel body on any staging memrefs: a subtype the run finds -/

/-- One staging buffer of output window 7, through which its contents are stated (`View.read_writes_of_cover`: the
    choice does not matter). -/
abbrev VO1_7 : View sig .tc .vmem S256x128 .f32 := (Memref.whole cc1_stg7_0 : Memref sig .tc .vmem S256x128 .f32).view
/-- One staging buffer of output window 8, through which its contents are stated (`View.read_writes_of_cover`: the
    choice does not matter). -/
abbrev VO1_8 : View sig .tc .vmem S256x128 .f32 := (Memref.whole cc1_stg8_0 : Memref sig .tc .vmem S256x128 .f32).view
/-- One staging buffer of output window 9, through which its contents are stated (`View.read_writes_of_cover`: the
    choice does not matter). -/
abbrev VO1_9 : View sig .tc .vmem S256x512 .f32 := (Memref.whole cc1_stg9_0 : Memref sig .tc .vmem S256x512 .f32).view
/-- One staging buffer of output window 10, through which its contents are stated (`View.read_writes_of_cover`: the
    choice does not matter). -/
abbrev VO1_10 : View sig .tc .vmem S256x512 .f32 := (Memref.whole cc1_stg10_0 : Memref sig .tc .vmem S256x512 .f32).view
/-- Each window's current staging memref at point `t`, spelled as the pipeline passes it (`bodyAt1`), and its wholeness. -/
abbrev ms1_0 (t : Fin cfg1.N) : Memref sig .tc .vmem S1280x2560 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2560x512 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S80x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .smem S1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x512 .f32 := win1_10.stage (cfg1.slots t 10)
abbrev hs1_10 (t : Fin cfg1.N) : (ms1_10 t).IsWhole := hstage1_10 ((cfg1.slots t 10).cast nbuf1_10)
/-- The scratch operands: whole scoped buffers of the kernel's own, passed beside the windows. -/
abbrev scM1_0 : Memref sig .tc .vmem S256x128 .f32 := Memref.whole cc1_scratch0
abbrev scM1_1 : Memref sig .tc .vmem S256x128 .f32 := Memref.whole cc1_scratch1
/-- The scratch `arg12` the kernel carries between points, as a view: what it holds is stated through it. -/
abbrev VS1_0 : View sig .tc .vmem S256x128 .f32 := scM1_0.view
/-- The scratch `arg13` the kernel carries between points, as a view: what it holds is stated through it. -/
abbrev VS1_1 : View sig .tc .vmem S256x128 .f32 := scM1_1.view

/-- The scoped buffers of the other layer, each at some contents: this layer's body leaves them alone. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop(Rest1 c ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole, Rest1,
    show ∀ P Q R : sProp 𝕄, iprop((P ∗ Q) ∗ R) = iprop(P ∗ Q ∗ R) from fun _ _ _ => BI.Entails.antisymm sep_assoc sep_assoc']
  rfl

-- (the run's proof term is large: the definition's epilogue — `abstractNestedProofs` — walks it past the default budget)
set_option maxHeartbeats 1000000 in
/-- What the body's stores leave in each buffer it writes, as pieces, at the first point, with the proof that from the inputs
    at their contents the body runs and hands every buffer back: the inputs as they were, the written ones with their
    pieces written. -/
noncomputable def kernelRun1_A (c : Dev nD) (i : grid1.Coords) (arg1 : Memref sig .tc .vmem S1280x2560 .bf16) (harg1 : arg1.IsWhole) (arg2 : Memref sig .tc .vmem S2560x512 .fp8e4m3) (harg2 : arg2.IsWhole) (arg3 : Memref sig .tc .vmem S80x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .smem S1x1 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x128 .f32) (harg12 : arg12.IsWhole) (arg13 : Memref sig .tc .vmem S256x128 .f32) (harg13 : arg13.IsWhole) (hc0 : cond1_0 i) (hc1 : ¬cond1_1 i)
    (x0 : Vec F S1280x2560 .bf16) (x1 : Vec F S2560x512 .fp8e4m3) (x2 : Vec F S80x512 .f32) (x3 : Vec F S1x512 .f32) (x4 : Vec F S1x512 .f32) (x5 : Vec F S256x1 .f32) (x6 : Vec F S1x1 .f32) :
    Σ' (L7 : List (View.Piece (Elt F) S256x128 .f32)), Σ' (L8 : List (View.Piece (Elt F) S256x128 .f32)), Σ' (L9 : List (View.Piece (Elt F) S256x512 .f32)), Σ' (L10 : List (View.Piece (Elt F) S256x512 .f32)), Σ' (LS0 : List (View.Piece (Elt F) S256x128 .f32)), { LS1 : List (View.Piece (Elt F) S256x128 .f32) //
      ∀ (xi7 : Vec F S256x128 .f32) (xi8 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_layer2 i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, ?_, ?_, fun xi7 xi8 E K => ?run⟩
  case run =>
    simp only [cc1_layer2_eq_skeleton]; unfold cc1_layer2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [HS0]; · iexists _; iexact HS0
    iexists _; iexact HS1

/-- The run of case A at point `t`: on the point's staging buffers and the blocks they hold. -/
abbrev run1_A (c : Dev nD) (t : Fin cfg1.N) (hc0 : cond1_0 (grid1.coords t)) (hc1 : ¬cond1_1 (grid1.coords t)) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t)

/-- Case A stores nothing into output 7 (the window is idle at its points and not written back there):
    no pieces — a placeholder (junk read back) that nothing consults, since at these points the window is neither
    written back nor read at the next point (Lib/Pipeline.lean "Idle points"). -/
def out1_A_7 (c : Dev nD) (t : Fin cfg1.N) (hc0 : cond1_0 (grid1.coords t)) (hc1 : ¬cond1_1 (grid1.coords t)) : Vec F S256x128 .f32 :=
  VO1_7.read (Elt F) (VO1_7.writes (Elt F) VO1_7.junk (run1_A V c t hc0 hc1).1)

/-- Case A stores nothing into output 8 (the window is idle at its points and not written back there):
    no pieces — a placeholder (junk read back) that nothing consults, since at these points the window is neither
    written back nor read at the next point (Lib/Pipeline.lean "Idle points"). -/
def out1_A_8 (c : Dev nD) (t : Fin cfg1.N) (hc0 : cond1_0 (grid1.coords t)) (hc1 : ¬cond1_1 (grid1.coords t)) : Vec F S256x128 .f32 :=
  VO1_8.read (Elt F) (VO1_8.writes (Elt F) VO1_8.junk (run1_A V c t hc0 hc1).2.1)

/-- Case A's pieces for output 9 tile its block (2 stores of `S256x256`, checked by the kernel's evaluation: Lib/Ring.lean `Piece.tiledL`, linear in the pieces, through a loop's `@[irreducible]` trip theorem too), so they cover it. -/
theorem cover1_A_9 (c : Dev nD) (t : Fin cfg1.N) (hc0 : cond1_0 (grid1.coords t)) (hc1 : ¬cond1_1 (grid1.coords t)) (y : S256x512.Idx) :
    ∃ pc ∈ (run1_A V c t hc0 hc1).2.2.1, y ∈ pc.1.set :=
  View.cover_of_tiledL (run1_A V c t hc0 hc1).2.2.1 S256x256.size (by sl_kernel_rfl) y

/-- What case A leaves in output 9's staging buffer: its pieces read back over junk. -/
def out1_A_9 (c : Dev nD) (t : Fin cfg1.N) (hc0 : cond1_0 (grid1.coords t)) (hc1 : ¬cond1_1 (grid1.coords t)) : Vec F S256x512 .f32 :=
  VO1_9.read (Elt F) (VO1_9.writes (Elt F) VO1_9.junk (run1_A V c t hc0 hc1).2.2.1)

/-- Case A's pieces for output 10 tile its block (2 stores of `S256x256`, checked by the kernel's evaluation: Lib/Ring.lean `Piece.tiledL`, linear in the pieces, through a loop's `@[irreducible]` trip theorem too), so they cover it. -/
theorem cover1_A_10 (c : Dev nD) (t : Fin cfg1.N) (hc0 : cond1_0 (grid1.coords t)) (hc1 : ¬cond1_1 (grid1.coords t)) (y : S256x512.Idx) :
    ∃ pc ∈ (run1_A V c t hc0 hc1).2.2.2.1, y ∈ pc.1.set :=
  View.cover_of_tiledL (run1_A V c t hc0 hc1).2.2.2.1 S256x256.size (by sl_kernel_rfl) y

/-- What case A leaves in output 10's staging buffer: its pieces read back over junk. -/
def out1_A_10 (c : Dev nD) (t : Fin cfg1.N) (hc0 : cond1_0 (grid1.coords t)) (hc1 : ¬cond1_1 (grid1.coords t)) : Vec F S256x512 .f32 :=
  VO1_10.read (Elt F) (VO1_10.writes (Elt F) VO1_10.junk (run1_A V c t hc0 hc1).2.2.2.1)

/-- Case A's pieces for scratch `arg12`, which the kernel carries between points, cover it: 3 pieces of `S256x128` tiling it (Lib/Ring.lean `Piece.tiledL`). -/
theorem scover1_A_0 (c : Dev nD) (t : Fin cfg1.N) (hc0 : cond1_0 (grid1.coords t)) (hc1 : ¬cond1_1 (grid1.coords t)) (y : S256x128.Idx) :
    ∃ pc ∈ (run1_A V c t hc0 hc1).2.2.2.2.1, y ∈ pc.1.set :=
  View.cover_of_tiledL (run1_A V c t hc0 hc1).2.2.2.2.1 S256x128.size (by sl_kernel_rfl) y

/-- What case A leaves in scratch `arg12`: its pieces read back over junk. -/
def sout1_A_0 (c : Dev nD) (t : Fin cfg1.N) (hc0 : cond1_0 (grid1.coords t)) (hc1 : ¬cond1_1 (grid1.coords t)) : Vec F S256x128 .f32 :=
  VS1_0.read (Elt F) (VS1_0.writes (Elt F) VS1_0.junk (run1_A V c t hc0 hc1).2.2.2.2.1)

/-- Case A's pieces for scratch `arg13`, which the kernel carries between points, cover it: 3 pieces of `S256x128` tiling it (Lib/Ring.lean `Piece.tiledL`). -/
theorem scover1_A_1 (c : Dev nD) (t : Fin cfg1.N) (hc0 : cond1_0 (grid1.coords t)) (hc1 : ¬cond1_1 (grid1.coords t)) (y : S256x128.Idx) :
    ∃ pc ∈ (run1_A V c t hc0 hc1).2.2.2.2.2.1, y ∈ pc.1.set :=
  View.cover_of_tiledL (run1_A V c t hc0 hc1).2.2.2.2.2.1 S256x128.size (by sl_kernel_rfl) y

/-- What case A leaves in scratch `arg13`: its pieces read back over junk. -/
def sout1_A_1 (c : Dev nD) (t : Fin cfg1.N) (hc0 : cond1_0 (grid1.coords t)) (hc1 : ¬cond1_1 (grid1.coords t)) : Vec F S256x128 .f32 :=
  VS1_1.read (Elt F) (VS1_1.writes (Elt F) VS1_1.junk (run1_A V c t hc0 hc1).2.2.2.2.2.1)

-- (the run's proof term is large: the definition's epilogue — `abstractNestedProofs` — walks it past the default budget)
set_option maxHeartbeats 1000000 in
/-- What the body's stores leave in each buffer it writes, as pieces, at a point between, with the proof that from the inputs
    at their contents the body runs and hands every buffer back: the inputs as they were, the written ones with their
    pieces written. -/
noncomputable def kernelRun1_B (c : Dev nD) (i : grid1.Coords) (arg1 : Memref sig .tc .vmem S1280x2560 .bf16) (harg1 : arg1.IsWhole) (arg2 : Memref sig .tc .vmem S2560x512 .fp8e4m3) (harg2 : arg2.IsWhole) (arg3 : Memref sig .tc .vmem S80x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .smem S1x1 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x128 .f32) (harg12 : arg12.IsWhole) (arg13 : Memref sig .tc .vmem S256x128 .f32) (harg13 : arg13.IsWhole) (hc0 : ¬cond1_0 i) (hc1 : ¬cond1_1 i)
    (x0 : Vec F S1280x2560 .bf16) (x1 : Vec F S2560x512 .fp8e4m3) (x2 : Vec F S80x512 .f32) (x3 : Vec F S1x512 .f32) (x4 : Vec F S1x512 .f32) (x5 : Vec F S256x1 .f32) (x6 : Vec F S1x1 .f32) (xs0 : Vec F S256x128 .f32) (xs1 : Vec F S256x128 .f32) :
    Σ' (L7 : List (View.Piece (Elt F) S256x128 .f32)), Σ' (L8 : List (View.Piece (Elt F) S256x128 .f32)), Σ' (L9 : List (View.Piece (Elt F) S256x512 .f32)), Σ' (L10 : List (View.Piece (Elt F) S256x512 .f32)), Σ' (LS0 : List (View.Piece (Elt F) S256x128 .f32)), { LS1 : List (View.Piece (Elt F) S256x128 .f32) //
      ∀ (xi7 : Vec F S256x128 .f32) (xi8 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_layer2 i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, ?_, ?_, fun xi7 xi8 E K => ?run⟩
  case run =>
    simp only [cc1_layer2_eq_skeleton]; unfold cc1_layer2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [HS0]; · iexists _; iexact HS0
    iexists _; iexact HS1

/-- The run of case B at point `t`: on the point's staging buffers and the blocks they hold. -/
abbrev run1_B (c : Dev nD) (t : Fin cfg1.N) (hc0 : ¬cond1_0 (grid1.coords t)) (hc1 : ¬cond1_1 (grid1.coords t)) (xs0 : Vec F S256x128 .f32) (xs1 : Vec F S256x128 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) xs0 xs1

/-- Case B stores nothing into output 7 (the window is idle at its points and not written back there):
    no pieces — a placeholder (junk read back) that nothing consults, since at these points the window is neither
    written back nor read at the next point (Lib/Pipeline.lean "Idle points"). -/
def out1_B_7 (c : Dev nD) (t : Fin cfg1.N) (hc0 : ¬cond1_0 (grid1.coords t)) (hc1 : ¬cond1_1 (grid1.coords t)) (xs0 : Vec F S256x128 .f32) (xs1 : Vec F S256x128 .f32) : Vec F S256x128 .f32 :=
  VO1_7.read (Elt F) (VO1_7.writes (Elt F) VO1_7.junk (run1_B V c t hc0 hc1 xs0 xs1).1)

/-- Case B stores nothing into output 8 (the window is idle at its points and not written back there):
    no pieces — a placeholder (junk read back) that nothing consults, since at these points the window is neither
    written back nor read at the next point (Lib/Pipeline.lean "Idle points"). -/
def out1_B_8 (c : Dev nD) (t : Fin cfg1.N) (hc0 : ¬cond1_0 (grid1.coords t)) (hc1 : ¬cond1_1 (grid1.coords t)) (xs0 : Vec F S256x128 .f32) (xs1 : Vec F S256x128 .f32) : Vec F S256x128 .f32 :=
  VO1_8.read (Elt F) (VO1_8.writes (Elt F) VO1_8.junk (run1_B V c t hc0 hc1 xs0 xs1).2.1)

/-- Case B's pieces for output 9 tile its block (2 stores of `S256x256`, checked by the kernel's evaluation: Lib/Ring.lean `Piece.tiledL`, linear in the pieces, through a loop's `@[irreducible]` trip theorem too), so they cover it. -/
theorem cover1_B_9 (c : Dev nD) (t : Fin cfg1.N) (hc0 : ¬cond1_0 (grid1.coords t)) (hc1 : ¬cond1_1 (grid1.coords t)) (xs0 : Vec F S256x128 .f32) (xs1 : Vec F S256x128 .f32) (y : S256x512.Idx) :
    ∃ pc ∈ (run1_B V c t hc0 hc1 xs0 xs1).2.2.1, y ∈ pc.1.set :=
  View.cover_of_tiledL (run1_B V c t hc0 hc1 xs0 xs1).2.2.1 S256x256.size (by sl_kernel_rfl) y

/-- What case B leaves in output 9's staging buffer: its pieces read back over junk. -/
def out1_B_9 (c : Dev nD) (t : Fin cfg1.N) (hc0 : ¬cond1_0 (grid1.coords t)) (hc1 : ¬cond1_1 (grid1.coords t)) (xs0 : Vec F S256x128 .f32) (xs1 : Vec F S256x128 .f32) : Vec F S256x512 .f32 :=
  VO1_9.read (Elt F) (VO1_9.writes (Elt F) VO1_9.junk (run1_B V c t hc0 hc1 xs0 xs1).2.2.1)

/-- Case B's pieces for output 10 tile its block (2 stores of `S256x256`, checked by the kernel's evaluation: Lib/Ring.lean `Piece.tiledL`, linear in the pieces, through a loop's `@[irreducible]` trip theorem too), so they cover it. -/
theorem cover1_B_10 (c : Dev nD) (t : Fin cfg1.N) (hc0 : ¬cond1_0 (grid1.coords t)) (hc1 : ¬cond1_1 (grid1.coords t)) (xs0 : Vec F S256x128 .f32) (xs1 : Vec F S256x128 .f32) (y : S256x512.Idx) :
    ∃ pc ∈ (run1_B V c t hc0 hc1 xs0 xs1).2.2.2.1, y ∈ pc.1.set :=
  View.cover_of_tiledL (run1_B V c t hc0 hc1 xs0 xs1).2.2.2.1 S256x256.size (by sl_kernel_rfl) y

/-- What case B leaves in output 10's staging buffer: its pieces read back over junk. -/
def out1_B_10 (c : Dev nD) (t : Fin cfg1.N) (hc0 : ¬cond1_0 (grid1.coords t)) (hc1 : ¬cond1_1 (grid1.coords t)) (xs0 : Vec F S256x128 .f32) (xs1 : Vec F S256x128 .f32) : Vec F S256x512 .f32 :=
  VO1_10.read (Elt F) (VO1_10.writes (Elt F) VO1_10.junk (run1_B V c t hc0 hc1 xs0 xs1).2.2.2.1)

/-- Case B's pieces for scratch `arg12`, which the kernel carries between points, cover it: 2 pieces of `S256x128` tiling it (Lib/Ring.lean `Piece.tiledL`). -/
theorem scover1_B_0 (c : Dev nD) (t : Fin cfg1.N) (hc0 : ¬cond1_0 (grid1.coords t)) (hc1 : ¬cond1_1 (grid1.coords t)) (xs0 : Vec F S256x128 .f32) (xs1 : Vec F S256x128 .f32) (y : S256x128.Idx) :
    ∃ pc ∈ (run1_B V c t hc0 hc1 xs0 xs1).2.2.2.2.1, y ∈ pc.1.set :=
  View.cover_of_tiledL (run1_B V c t hc0 hc1 xs0 xs1).2.2.2.2.1 S256x128.size (by sl_kernel_rfl) y

/-- What case B leaves in scratch `arg12`: its pieces read back over junk. -/
def sout1_B_0 (c : Dev nD) (t : Fin cfg1.N) (hc0 : ¬cond1_0 (grid1.coords t)) (hc1 : ¬cond1_1 (grid1.coords t)) (xs0 : Vec F S256x128 .f32) (xs1 : Vec F S256x128 .f32) : Vec F S256x128 .f32 :=
  VS1_0.read (Elt F) (VS1_0.writes (Elt F) VS1_0.junk (run1_B V c t hc0 hc1 xs0 xs1).2.2.2.2.1)

/-- Case B's pieces for scratch `arg13`, which the kernel carries between points, cover it: 2 pieces of `S256x128` tiling it (Lib/Ring.lean `Piece.tiledL`). -/
theorem scover1_B_1 (c : Dev nD) (t : Fin cfg1.N) (hc0 : ¬cond1_0 (grid1.coords t)) (hc1 : ¬cond1_1 (grid1.coords t)) (xs0 : Vec F S256x128 .f32) (xs1 : Vec F S256x128 .f32) (y : S256x128.Idx) :
    ∃ pc ∈ (run1_B V c t hc0 hc1 xs0 xs1).2.2.2.2.2.1, y ∈ pc.1.set :=
  View.cover_of_tiledL (run1_B V c t hc0 hc1 xs0 xs1).2.2.2.2.2.1 S256x128.size (by sl_kernel_rfl) y

/-- What case B leaves in scratch `arg13`: its pieces read back over junk. -/
def sout1_B_1 (c : Dev nD) (t : Fin cfg1.N) (hc0 : ¬cond1_0 (grid1.coords t)) (hc1 : ¬cond1_1 (grid1.coords t)) (xs0 : Vec F S256x128 .f32) (xs1 : Vec F S256x128 .f32) : Vec F S256x128 .f32 :=
  VS1_1.read (Elt F) (VS1_1.writes (Elt F) VS1_1.junk (run1_B V c t hc0 hc1 xs0 xs1).2.2.2.2.2.1)

-- (the run's proof term is large: the definition's epilogue — `abstractNestedProofs` — walks it past the default budget)
set_option maxHeartbeats 1000000 in
/-- What the body's stores leave in each buffer it writes, as pieces, at the last point, with the proof that from the inputs
    at their contents the body runs and hands every buffer back: the inputs as they were, the written ones with their
    pieces written. -/
noncomputable def kernelRun1_C (c : Dev nD) (i : grid1.Coords) (arg1 : Memref sig .tc .vmem S1280x2560 .bf16) (harg1 : arg1.IsWhole) (arg2 : Memref sig .tc .vmem S2560x512 .fp8e4m3) (harg2 : arg2.IsWhole) (arg3 : Memref sig .tc .vmem S80x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .smem S1x1 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x128 .f32) (harg12 : arg12.IsWhole) (arg13 : Memref sig .tc .vmem S256x128 .f32) (harg13 : arg13.IsWhole) (hc0 : ¬cond1_0 i) (hc1 : cond1_1 i)
    (x0 : Vec F S1280x2560 .bf16) (x1 : Vec F S2560x512 .fp8e4m3) (x2 : Vec F S80x512 .f32) (x3 : Vec F S1x512 .f32) (x4 : Vec F S1x512 .f32) (x5 : Vec F S256x1 .f32) (x6 : Vec F S1x1 .f32) (xs0 : Vec F S256x128 .f32) (xs1 : Vec F S256x128 .f32) :
    Σ' (L7 : List (View.Piece (Elt F) S256x128 .f32)), Σ' (L8 : List (View.Piece (Elt F) S256x128 .f32)), Σ' (L9 : List (View.Piece (Elt F) S256x512 .f32)), Σ' (L10 : List (View.Piece (Elt F) S256x512 .f32)), Σ' (LS0 : List (View.Piece (Elt F) S256x128 .f32)), { LS1 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_layer2 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc1_layer2_eq_skeleton]; unfold cc1_layer2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [HS0]; · iexists _; iexact HS0
    iexists _; iexact HS1

/-- The run of case C at point `t`: on the point's staging buffers and the blocks they hold. -/
abbrev run1_C (c : Dev nD) (t : Fin cfg1.N) (hc0 : ¬cond1_0 (grid1.coords t)) (hc1 : cond1_1 (grid1.coords t)) (xs0 : Vec F S256x128 .f32) (xs1 : Vec F S256x128 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) xs0 xs1

/-- Case C's pieces for output 7 tile its block (1 store of `S256x128`, checked by the kernel's evaluation: Lib/Ring.lean `Piece.tiledL`, linear in the pieces, through a loop's `@[irreducible]` trip theorem too), so they cover it. -/
theorem cover1_C_7 (c : Dev nD) (t : Fin cfg1.N) (hc0 : ¬cond1_0 (grid1.coords t)) (hc1 : cond1_1 (grid1.coords t)) (xs0 : Vec F S256x128 .f32) (xs1 : Vec F S256x128 .f32) (y : S256x128.Idx) :
    ∃ pc ∈ (run1_C V c t hc0 hc1 xs0 xs1).1, y ∈ pc.1.set :=
  View.cover_of_tiledL (run1_C V c t hc0 hc1 xs0 xs1).1 S256x128.size (by sl_kernel_rfl) y

/-- What case C leaves in output 7's staging buffer: its pieces read back over junk. -/
def out1_C_7 (c : Dev nD) (t : Fin cfg1.N) (hc0 : ¬cond1_0 (grid1.coords t)) (hc1 : cond1_1 (grid1.coords t)) (xs0 : Vec F S256x128 .f32) (xs1 : Vec F S256x128 .f32) : Vec F S256x128 .f32 :=
  VO1_7.read (Elt F) (VO1_7.writes (Elt F) VO1_7.junk (run1_C V c t hc0 hc1 xs0 xs1).1)

/-- Case C's pieces for output 8 tile its block (1 store of `S256x128`, checked by the kernel's evaluation: Lib/Ring.lean `Piece.tiledL`, linear in the pieces, through a loop's `@[irreducible]` trip theorem too), so they cover it. -/
theorem cover1_C_8 (c : Dev nD) (t : Fin cfg1.N) (hc0 : ¬cond1_0 (grid1.coords t)) (hc1 : cond1_1 (grid1.coords t)) (xs0 : Vec F S256x128 .f32) (xs1 : Vec F S256x128 .f32) (y : S256x128.Idx) :
    ∃ pc ∈ (run1_C V c t hc0 hc1 xs0 xs1).2.1, y ∈ pc.1.set :=
  View.cover_of_tiledL (run1_C V c t hc0 hc1 xs0 xs1).2.1 S256x128.size (by sl_kernel_rfl) y

/-- What case C leaves in output 8's staging buffer: its pieces read back over junk. -/
def out1_C_8 (c : Dev nD) (t : Fin cfg1.N) (hc0 : ¬cond1_0 (grid1.coords t)) (hc1 : cond1_1 (grid1.coords t)) (xs0 : Vec F S256x128 .f32) (xs1 : Vec F S256x128 .f32) : Vec F S256x128 .f32 :=
  VO1_8.read (Elt F) (VO1_8.writes (Elt F) VO1_8.junk (run1_C V c t hc0 hc1 xs0 xs1).2.1)

/-- Case C's pieces for output 9 tile its block (2 stores of `S256x256`, checked by the kernel's evaluation: Lib/Ring.lean `Piece.tiledL`, linear in the pieces, through a loop's `@[irreducible]` trip theorem too), so they cover it. -/
theorem cover1_C_9 (c : Dev nD) (t : Fin cfg1.N) (hc0 : ¬cond1_0 (grid1.coords t)) (hc1 : cond1_1 (grid1.coords t)) (xs0 : Vec F S256x128 .f32) (xs1 : Vec F S256x128 .f32) (y : S256x512.Idx) :
    ∃ pc ∈ (run1_C V c t hc0 hc1 xs0 xs1).2.2.1, y ∈ pc.1.set :=
  View.cover_of_tiledL (run1_C V c t hc0 hc1 xs0 xs1).2.2.1 S256x256.size (by sl_kernel_rfl) y

/-- What case C leaves in output 9's staging buffer: its pieces read back over junk. -/
def out1_C_9 (c : Dev nD) (t : Fin cfg1.N) (hc0 : ¬cond1_0 (grid1.coords t)) (hc1 : cond1_1 (grid1.coords t)) (xs0 : Vec F S256x128 .f32) (xs1 : Vec F S256x128 .f32) : Vec F S256x512 .f32 :=
  VO1_9.read (Elt F) (VO1_9.writes (Elt F) VO1_9.junk (run1_C V c t hc0 hc1 xs0 xs1).2.2.1)

/-- Case C's pieces for output 10 tile its block (2 stores of `S256x256`, checked by the kernel's evaluation: Lib/Ring.lean `Piece.tiledL`, linear in the pieces, through a loop's `@[irreducible]` trip theorem too), so they cover it. -/
theorem cover1_C_10 (c : Dev nD) (t : Fin cfg1.N) (hc0 : ¬cond1_0 (grid1.coords t)) (hc1 : cond1_1 (grid1.coords t)) (xs0 : Vec F S256x128 .f32) (xs1 : Vec F S256x128 .f32) (y : S256x512.Idx) :
    ∃ pc ∈ (run1_C V c t hc0 hc1 xs0 xs1).2.2.2.1, y ∈ pc.1.set :=
  View.cover_of_tiledL (run1_C V c t hc0 hc1 xs0 xs1).2.2.2.1 S256x256.size (by sl_kernel_rfl) y

/-- What case C leaves in output 10's staging buffer: its pieces read back over junk. -/
def out1_C_10 (c : Dev nD) (t : Fin cfg1.N) (hc0 : ¬cond1_0 (grid1.coords t)) (hc1 : cond1_1 (grid1.coords t)) (xs0 : Vec F S256x128 .f32) (xs1 : Vec F S256x128 .f32) : Vec F S256x512 .f32 :=
  VO1_10.read (Elt F) (VO1_10.writes (Elt F) VO1_10.junk (run1_C V c t hc0 hc1 xs0 xs1).2.2.2.1)

/-- Case C's pieces for scratch `arg12`, which the kernel carries between points, cover it: 2 pieces of `S256x128` tiling it (Lib/Ring.lean `Piece.tiledL`). -/
theorem scover1_C_0 (c : Dev nD) (t : Fin cfg1.N) (hc0 : ¬cond1_0 (grid1.coords t)) (hc1 : cond1_1 (grid1.coords t)) (xs0 : Vec F S256x128 .f32) (xs1 : Vec F S256x128 .f32) (y : S256x128.Idx) :
    ∃ pc ∈ (run1_C V c t hc0 hc1 xs0 xs1).2.2.2.2.1, y ∈ pc.1.set :=
  View.cover_of_tiledL (run1_C V c t hc0 hc1 xs0 xs1).2.2.2.2.1 S256x128.size (by sl_kernel_rfl) y

/-- What case C leaves in scratch `arg12`: its pieces read back over junk. -/
def sout1_C_0 (c : Dev nD) (t : Fin cfg1.N) (hc0 : ¬cond1_0 (grid1.coords t)) (hc1 : cond1_1 (grid1.coords t)) (xs0 : Vec F S256x128 .f32) (xs1 : Vec F S256x128 .f32) : Vec F S256x128 .f32 :=
  VS1_0.read (Elt F) (VS1_0.writes (Elt F) VS1_0.junk (run1_C V c t hc0 hc1 xs0 xs1).2.2.2.2.1)

/-- Case C's pieces for scratch `arg13`, which the kernel carries between points, cover it: 2 pieces of `S256x128` tiling it (Lib/Ring.lean `Piece.tiledL`). -/
theorem scover1_C_1 (c : Dev nD) (t : Fin cfg1.N) (hc0 : ¬cond1_0 (grid1.coords t)) (hc1 : cond1_1 (grid1.coords t)) (xs0 : Vec F S256x128 .f32) (xs1 : Vec F S256x128 .f32) (y : S256x128.Idx) :
    ∃ pc ∈ (run1_C V c t hc0 hc1 xs0 xs1).2.2.2.2.2.1, y ∈ pc.1.set :=
  View.cover_of_tiledL (run1_C V c t hc0 hc1 xs0 xs1).2.2.2.2.2.1 S256x128.size (by sl_kernel_rfl) y

/-- What case C leaves in scratch `arg13`: its pieces read back over junk. -/
def sout1_C_1 (c : Dev nD) (t : Fin cfg1.N) (hc0 : ¬cond1_0 (grid1.coords t)) (hc1 : cond1_1 (grid1.coords t)) (xs0 : Vec F S256x128 .f32) (xs1 : Vec F S256x128 .f32) : Vec F S256x128 .f32 :=
  VS1_1.read (Elt F) (VS1_1.writes (Elt F) VS1_1.junk (run1_C V c t hc0 hc1 xs0 xs1).2.2.2.2.2.1)

end Cert.Kernel.Whole

end
-- ==== Proof.Kernel.Layer2.lean ====
module

public import proofs.«01_k».proof.Proof.Kernel.Layer2Runs

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the contents of the core's buffers when the layer's call is entered
variable (V : (c : Dev nD) → (b : Ref sig .tc) → Buf (Elt F) ((c : Thread nD τ).loc b))

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S256x128 .f32 × Vec F S256x128 .f32 × Vec F S256x512 .f32 × Vec F S256x512 .f32 × Vec F S256x128 .f32 × Vec F S256x128 .f32
  | 0, hn => (out1_A_7 V c ⟨0, hn⟩ ((hcond1_0 ⟨0, hn⟩).mpr (Nat.zero_mod _)) (fun h => (fun h => by (try dsimp only at h); omega) ((hcond1_1 ⟨0, hn⟩).mp h)), out1_A_8 V c ⟨0, hn⟩ ((hcond1_0 ⟨0, hn⟩).mpr (Nat.zero_mod _)) (fun h => (fun h => by (try dsimp only at h); omega) ((hcond1_1 ⟨0, hn⟩).mp h)), out1_A_9 V c ⟨0, hn⟩ ((hcond1_0 ⟨0, hn⟩).mpr (Nat.zero_mod _)) (fun h => (fun h => by (try dsimp only at h); omega) ((hcond1_1 ⟨0, hn⟩).mp h)), out1_A_10 V c ⟨0, hn⟩ ((hcond1_0 ⟨0, hn⟩).mpr (Nat.zero_mod _)) (fun h => (fun h => by (try dsimp only at h); omega) ((hcond1_1 ⟨0, hn⟩).mp h)), sout1_A_0 V c ⟨0, hn⟩ ((hcond1_0 ⟨0, hn⟩).mpr (Nat.zero_mod _)) (fun h => (fun h => by (try dsimp only at h); omega) ((hcond1_1 ⟨0, hn⟩).mp h)), sout1_A_1 V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 32 = 0 then
      if h1 : (n + 1) % 32 = 31 then
        False.elim (by have hN : n + 1 < 32 := lt_of_lt_of_eq hn (show cfg1.N = 32 from N_1); omega)
      else
        (out1_A_7 V c ⟨n + 1, hn⟩ ((hcond1_0 ⟨n + 1, hn⟩).mpr h0) (fun h => h1 ((hcond1_1 ⟨n + 1, hn⟩).mp h)), out1_A_8 V c ⟨n + 1, hn⟩ ((hcond1_0 ⟨n + 1, hn⟩).mpr h0) (fun h => h1 ((hcond1_1 ⟨n + 1, hn⟩).mp h)), out1_A_9 V c ⟨n + 1, hn⟩ ((hcond1_0 ⟨n + 1, hn⟩).mpr h0) (fun h => h1 ((hcond1_1 ⟨n + 1, hn⟩).mp h)), out1_A_10 V c ⟨n + 1, hn⟩ ((hcond1_0 ⟨n + 1, hn⟩).mpr h0) (fun h => h1 ((hcond1_1 ⟨n + 1, hn⟩).mp h)), sout1_A_0 V c ⟨n + 1, hn⟩ ((hcond1_0 ⟨n + 1, hn⟩).mpr h0) (fun h => h1 ((hcond1_1 ⟨n + 1, hn⟩).mp h)), sout1_A_1 V c ⟨n + 1, hn⟩ ((hcond1_0 ⟨n + 1, hn⟩).mpr h0) (fun h => h1 ((hcond1_1 ⟨n + 1, hn⟩).mp h)))
    else
      if h1 : (n + 1) % 32 = 31 then
        (out1_C_7 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2, out1_C_8 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2, out1_C_9 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2, out1_C_10 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2, sout1_C_0 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2, sout1_C_1 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2)
      else
        (out1_B_7 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2, out1_B_8 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2, out1_B_9 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2, out1_B_10 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2, sout1_B_0 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2, sout1_B_1 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2)

/-- `outsAt1` at a point of case A: that case's contents. -/
theorem outsAt1_A (c : Dev nD) (t : Fin cfg1.N) (h0 : t.val % 32 = 0) (h1 : ¬t.val % 32 = 31) :
    outsAt1 V c t.val t.isLt = (out1_A_7 V c t ((hcond1_0 t).mpr h0) (fun h => h1 ((hcond1_1 t).mp h)), out1_A_8 V c t ((hcond1_0 t).mpr h0) (fun h => h1 ((hcond1_1 t).mp h)), out1_A_9 V c t ((hcond1_0 t).mpr h0) (fun h => h1 ((hcond1_1 t).mp h)), out1_A_10 V c t ((hcond1_0 t).mpr h0) (fun h => h1 ((hcond1_1 t).mp h)), sout1_A_0 V c t ((hcond1_0 t).mpr h0) (fun h => h1 ((hcond1_1 t).mp h)), sout1_A_1 V c t ((hcond1_0 t).mpr h0) (fun h => h1 ((hcond1_1 t).mp h))) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 32 = 0) (h1 : ¬t.val % 32 = 31) :
    outsAt1 V c t.val t.isLt = (out1_B_7 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_8 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_9 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_10 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_B_0 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_B_1 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 32 = 0) (h1 : t.val % 32 = 31) :
    outsAt1 V c t.val t.isLt = (out1_C_7 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_C_8 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_C_9 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_C_10 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_C_0 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_C_1 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop(Rest1 c ∗ owns (c : Thread nD τ) scM1_0 fullShare ((outsAt1 V c n hn).2.2.2.2.1) ∗ owns (c : Thread nD τ) scM1_1 fullShare ((outsAt1 V c n hn).2.2.2.2.2)) ∗ (∃ r, prngReg c r))

theorem PhiS_zero1 (c : Dev nD) (n : ℕ) (h : n ≤ cfg1.N) (hz : n = 0) : PhiS1 V c n h = Pipeline.ΦA spec1 c := by
  subst hz; rfl

/-- After point `n` (before point `n + 1`): the carried scratch at that point's contents. -/
theorem PhiS_succ1 (c : Dev nD) (n : ℕ) (hn : n < cfg1.N) :
    PhiS1 V c (n + 1) hn = iprop(iprop(Rest1 c ∗ owns (c : Thread nD τ) scM1_0 fullShare ((outsAt1 V c n hn).2.2.2.2.1) ∗ owns (c : Thread nD τ) scM1_1 fullShare ((outsAt1 V c n hn).2.2.2.2.2)) ∗ (∃ r, prngReg c r)) := rfl

/-- Before a point that is not the first: the carried scratch at what the point before left. -/
theorem PhiS_pos1 (c : Dev nD) (n : ℕ) (h : n ≤ cfg1.N) (hz : n ≠ 0) :
    PhiS1 V c n h = iprop(iprop(Rest1 c ∗ owns (c : Thread nD τ) scM1_0 fullShare ((outsAt1 V c (n - 1) (by omega)).2.2.2.2.1) ∗ owns (c : Thread nD τ) scM1_1 fullShare ((outsAt1 V c (n - 1) (by omega)).2.2.2.2.2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2.1
    | ⟨10, _⟩ => (outsAt1 V c t.val t.isLt).2.2.2.1
  Φ t := PhiS1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc1 (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2.1 := by dsimp only [dat1]
theorem after1_10 (c : Dev nD) (t : Fin cfg1.N) : (dat1 V c).after 10 t = (outsAt1 V c t.val t.isLt).2.2.2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 14400000 in
/-- The body at any point: the inputs' memrefs hold their blocks (`before1_W`); the closed forms say which case the point is in (`by_cases`), an output the case reads before covering holds what the point before left (`before1_W_κ`); so the
    run applies; the invariant hands the body the carried scratch at what the point before left (`PhiS_pos1`; at anything at the first point, `PhiS_zero1`), the other scratch buffers and the generator register at some state, and takes the carried scratch back at this point's contents (`PhiS_succ1`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS_succ1]
  have hN : t.val < 32 := lt_of_lt_of_eq t.isLt (show cfg1.N = 32 from N_1)
  by_cases h0 : t.val % 32 = 0
  · by_cases h1 : t.val % 32 = 31
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      by_cases hz : t.val = 0
      · rw [PhiS_castSucc1 V c t, PhiS_zero1 V c _ _ hz, PhiA1_eq]
        rw [outsAt1_A V c t h0 h1]
        unfold out1_A_9 out1_A_10 sout1_A_0 sout1_A_1; (try dsimp only)
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((run1_A V c t ((hcond1_0 t).mpr h0) (fun h => h1 ((hcond1_1 t).mp h))).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        isplitl [HS1]; · iexact HS1
        iintro ⟨H0, H1, H2, H3, H4, H5, H6, H7, H8, ⟨%e9, H9⟩, ⟨%e10, H10⟩, ⟨%es0, HS0⟩, ⟨%es1, HS1⟩⟩
        isplitl [HR HS0 HS1 Hg]
        · isplitl [HR HS0 HS1]
          · isplitl [HR]
            · iexact HR
            isplitl [HS0]
            · unfold owns; iexists _; isplitr
              swap; · iexact HS0
              ipureintro; exact View.read_writes_of_cover _ _ _ _ _ (scover1_A_0 V c t _ _)
            unfold owns; iexists _; isplitr
            swap; · iexact HS1
            ipureintro; exact View.read_writes_of_cover _ _ _ _ _ (scover1_A_1 V c t _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]
        · unfold owns; iexists _; isplitr
          swap; · iexact H9
          ipureintro; exact View.read_writes_of_cover _ _ _ _ _ (cover1_A_9 V c t _ _)
        unfold owns; iexists _; isplitr
        swap; · iexact H10
        ipureintro; exact View.read_writes_of_cover _ _ _ _ _ (cover1_A_10 V c t _ _)
      · exfalso; have hN : t.val < 32 := lt_of_lt_of_eq t.isLt (show cfg1.N = 32 from N_1); omega
  · by_cases h1 : t.val % 32 = 31
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_C t (fun h => h0 ((hcond1_0 t).mp h)) ((hcond1_1 t).mpr h1)], after1_7]
      rw [show (dat1 V c).leavesExact 8 t = owns (c : Thread nD τ) (ms1_8 t) fullShare ((dat1 V c).after 8 t) from by
      unfold Dat.leavesExact; rw [liveAt1_8_C t (fun h => h0 ((hcond1_0 t).mp h)) ((hcond1_1 t).mpr h1)], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      by_cases hz : t.val = 0
      · exfalso; have hN : t.val < 32 := lt_of_lt_of_eq t.isLt (show cfg1.N = 32 from N_1); omega
      · rw [PhiS_castSucc1 V c t, PhiS_pos1 V c _ _ hz]
        rw [outsAt1_C V c t h0 h1]
        unfold out1_C_7 out1_C_8 out1_C_9 out1_C_10 sout1_C_0 sout1_C_1; (try dsimp only)
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((run1_C V c t (fun h => h0 ((hcond1_0 t).mp h)) ((hcond1_1 t).mpr h1) _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, H4, H5, H6, ⟨%e7, H7⟩, ⟨%e8, H8⟩, ⟨%e9, H9⟩, ⟨%e10, H10⟩, ⟨%es0, HS0⟩, ⟨%es1, HS1⟩⟩
        isplitl [HR HS0 HS1 Hg]
        · isplitl [HR HS0 HS1]
          · isplitl [HR]
            · iexact HR
            isplitl [HS0]
            · unfold owns; iexists _; isplitr
              swap; · iexact HS0
              ipureintro; exact View.read_writes_of_cover _ _ _ _ _ (scover1_C_0 V c t _ _ _ _)
            unfold owns; iexists _; isplitr
            swap; · iexact HS1
            ipureintro; exact View.read_writes_of_cover _ _ _ _ _ (scover1_C_1 V c t _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover1_C_7 V c t _ _ _ _)
        isplitl [H8]
        · unfold owns; iexists _; isplitr
          swap; · iexact H8
          ipureintro; exact View.read_writes_of_cover _ _ _ _ _ (cover1_C_8 V c t _ _ _ _)
        isplitl [H9]
        · unfold owns; iexists _; isplitr
          swap; · iexact H9
          ipureintro; exact View.read_writes_of_cover _ _ _ _ _ (cover1_C_9 V c t _ _ _ _)
        unfold owns; iexists _; isplitr
        swap; · iexact H10
        ipureintro; exact View.read_writes_of_cover _ _ _ _ _ (cover1_C_10 V c t _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      by_cases hz : t.val = 0
      · exfalso; have hN : t.val < 32 := lt_of_lt_of_eq t.isLt (show cfg1.N = 32 from N_1); omega
      · rw [PhiS_castSucc1 V c t, PhiS_pos1 V c _ _ hz]
        rw [outsAt1_B V c t h0 h1]
        unfold out1_B_9 out1_B_10 sout1_B_0 sout1_B_1; (try dsimp only)
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((run1_B V c t (fun h => h0 ((hcond1_0 t).mp h)) (fun h => h1 ((hcond1_1 t).mp h)) _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        isplitl [HS1]; · iexact HS1
        iintro ⟨H0, H1, H2, H3, H4, H5, H6, H7, H8, ⟨%e9, H9⟩, ⟨%e10, H10⟩, ⟨%es0, HS0⟩, ⟨%es1, HS1⟩⟩
        isplitl [HR HS0 HS1 Hg]
        · isplitl [HR HS0 HS1]
          · isplitl [HR]
            · iexact HR
            isplitl [HS0]
            · unfold owns; iexists _; isplitr
              swap; · iexact HS0
              ipureintro; exact View.read_writes_of_cover _ _ _ _ _ (scover1_B_0 V c t _ _ _ _)
            unfold owns; iexists _; isplitr
            swap; · iexact HS1
            ipureintro; exact View.read_writes_of_cover _ _ _ _ _ (scover1_B_1 V c t _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]
        · unfold owns; iexists _; isplitr
          swap; · iexact H9
          ipureintro; exact View.read_writes_of_cover _ _ _ _ _ (cover1_B_9 V c t _ _ _ _)
        unfold owns; iexists _; isplitr
        swap; · iexact H10
        ipureintro; exact View.read_writes_of_cover _ _ _ _ _ (cover1_B_10 V c t _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS_zero1 V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS_pos1 V c _ _ ht, PhiA1_eq]
  iintro ⟨⟨HR, HS0, HS1⟩, Hg⟩
  isplitl [HR HS0 HS1]
  · isplitl [HR]
    · iexact HR
    isplitl [HS0]
    · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Whole

end
-- ==== Proof.Kernel.Run.lean ====
module

public import proofs.«01_k».proof.Proof.Kernel.Layer1
public import proofs.«01_k».proof.Proof.Kernel.Layer2

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5, main_v6, main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9, main_v10, main_v11, main_v12, main_v13, main_v14, main_v15, main_v16, main_v17]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the kit's implicit arguments are found by unifying its conclusion with this one, which takes unfolding plain
-- definitions in a metavariable's type
set_option backward.isDefEq.respectTransparency.types false in
/-- The launch: at the compiled mesh, from any memory with zero counters, every weakly fair execution of @main on the
    TensorCores terminates, nothing faulting, and every final state has every unscoped buffer at the last boundary's
    contents `W5` and every semaphore counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: every execution terminates, the argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c =>
     ⟨(h.1 c _ (mem_uc main_arg0 (by decide))).trans (W5_main_arg0 m ρ c),
      (h.1 c _ (mem_uc main_arg1 (by decide))).trans (W5_main_arg1 m ρ c),
      (h.1 c _ (mem_uc main_arg2 (by decide))).trans (W5_main_arg2 m ρ c),
      (h.1 c _ (mem_uc main_arg3 (by decide))).trans (W5_main_arg3 m ρ c),
      (h.1 c _ (mem_uc main_arg4 (by decide))).trans (W5_main_arg4 m ρ c),
      (h.1 c _ (mem_uc main_arg5 (by decide))).trans (W5_main_arg5 m ρ c),
      (h.1 c _ (mem_uc main_arg6 (by decide))).trans (W5_main_arg6 m ρ c),
      (h.1 c _ (mem_uc main_arg7 (by decide))).trans (W5_main_arg7 m ρ c),
      (h.1 c _ (mem_uc main_arg8 (by decide))).trans (W5_main_arg8 m ρ c),
      (h.1 c _ (mem_uc main_arg9 (by decide))).trans (W5_main_arg9 m ρ c),
      (h.1 c _ (mem_uc main_arg10 (by decide))).trans (W5_main_arg10 m ρ c),
      (h.1 c _ (mem_uc main_arg11 (by decide))).trans (W5_main_arg11 m ρ c)⟩, h.2⟩) (run_main m ρ)

end Cert.Kernel.Whole

end
-- ==== Proof.KernelIdeal.Layer1Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the core's buffers when the layer's call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 6, through which its contents are stated (`View.read_writes_of_cover`: the
    choice does not matter). -/
abbrev VO0_6 : View sig .tc .vmem S1280x2560 .bf16 := (Memref.whole cc0_stg6_0 : Memref sig .tc .vmem S1280x2560 .bf16).view
/-- Each window's current staging memref at point `t`, spelled as the pipeline passes it (`bodyAt0`), and its wholeness. -/
abbrev ms0_0 (t : Fin cfg0.N) : Memref sig .tc .vmem S256x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x2560 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1280x2560 .f32 := Memref.whole cc0_scratch0
abbrev scM0_1 : Memref sig .tc .vmem S1280x512 .bf16 := Memref.whole cc0_scratch1
/-- The scratch `arg8` the kernel carries between points, as a view: what it holds is stated through it. -/
abbrev VS0_0 : View sig .tc .vmem S1280x2560 .f32 := scM0_0.view

/-- The scoped buffers of the other layer, each at some contents: this layer's body leaves them alone. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_stg6_0), ((c : Thread nD τ).loc cc1_stg6_0) ↦{fullShare} f))

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each buffer it writes, as pieces, at the first point, with the proof that from the inputs
    at their contents the body runs and hands every buffer back: the inputs as they were, the written ones with their
    pieces written. -/
noncomputable def kernelRun0_A (c : Dev nD) (i : grid0.Coords) (arg1 : Memref sig .tc .vmem S256x3 .f32) (harg1 : arg1.IsWhole) (arg2 : Memref sig .tc .vmem S3x512 .f32) (harg2 : arg2.IsWhole) (arg3 : Memref sig .tc .vmem S1x512 .f32) (harg3 : arg3.IsWhole) (arg4 : Memref sig .tc .vmem S512x2560 .fp8e4m3) (harg4 : arg4.IsWhole) (arg5 : Memref sig .tc .vmem S16x2560 .f32) (harg5 : arg5.IsWhole) (arg6 : Memref sig .tc .vmem S1x2560 .f32) (harg6 : arg6.IsWhole) (arg7 : Memref sig .tc .vmem S1280x2560 .bf16) (harg7 : arg7.IsWhole) (arg8 : Memref sig .tc .vmem S1280x2560 .f32) (harg8 : arg8.IsWhole) (arg9 : Memref sig .tc .vmem S1280x512 .bf16) (harg9 : arg9.IsWhole) (hc0 : cond0_0 i) (hc1 : ¬cond0_1 i)
    (x0 : Vec F S256x3 .f32) (x1 : Vec F S3x512 .f32) (x2 : Vec F S1x512 .f32) (x3 : Vec F S512x2560 .fp8e4m3) (x4 : Vec F S16x2560 .f32) (x5 : Vec F S1x2560 .f32) :
    Σ' (L6 : List (View.Piece (Elt F) S1280x2560 .bf16)), Σ' (LS0 : List (View.Piece (Elt F) S1280x2560 .f32)), { LT1 : List (View.Piece (Elt F) S1280x512 .bf16) //
      ∀ (xi6 : Vec F S1280x2560 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_layer1 i arg1 harg1 arg2 harg2 arg3 harg3 arg4 harg4 arg5 harg5 arg6 harg6 arg7 harg7 arg8 harg8 arg9 harg9) K } := by
  refine ⟨[], ?_, ?_, fun xi6 E K => ?run⟩
  case run =>
    simp only [cc0_layer1_eq_skeleton]; unfold cc0_layer1_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

/-- The run of case A at point `t`: on the point's staging buffers and the blocks they hold. -/
abbrev run0_A (c : Dev nD) (t : Fin cfg0.N) (hc0 : cond0_0 (grid0.coords t)) (hc1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t)

/-- Case A stores nothing into output 6 (the window is idle at its points and not written back there):
    no pieces — a placeholder (junk read back) that nothing consults, since at these points the window is neither
    written back nor read at the next point (Lib/Pipeline.lean "Idle points"). -/
def out0_A_6 (c : Dev nD) (t : Fin cfg0.N) (hc0 : cond0_0 (grid0.coords t)) (hc1 : ¬cond0_1 (grid0.coords t)) : Vec F S1280x2560 .bf16 :=
  VO0_6.read (Elt F) (VO0_6.writes (Elt F) VO0_6.junk (run0_A V c t hc0 hc1).1)

/-- Case A's pieces for scratch `arg8`, which the kernel carries between points, cover it: one of them a store of the WHOLE buffer (Lib/Ring.lean `sl_whole_mem`). -/
theorem scover0_A_0 (c : Dev nD) (t : Fin cfg0.N) (hc0 : cond0_0 (grid0.coords t)) (hc1 : ¬cond0_1 (grid0.coords t)) (y : S1280x2560.Idx) :
    ∃ pc ∈ (run0_A V c t hc0 hc1).2.1, y ∈ pc.1.set :=
  View.cover_of_wholeMem (run0_A V c t hc0 hc1).2.1 (by sl_whole_mem) y

/-- What case A leaves in scratch `arg8`: its pieces read back over junk. -/
def sout0_A_0 (c : Dev nD) (t : Fin cfg0.N) (hc0 : cond0_0 (grid0.coords t)) (hc1 : ¬cond0_1 (grid0.coords t)) : Vec F S1280x2560 .f32 :=
  VS0_0.read (Elt F) (VS0_0.writes (Elt F) VS0_0.junk (run0_A V c t hc0 hc1).2.1)

-- (the run's proof term is large: the definition's epilogue — `abstractNestedProofs` — walks it past the default budget)
set_option maxHeartbeats 1000000 in
/-- What the body's stores leave in each buffer it writes, as pieces, at a point between, with the proof that from the inputs
    at their contents the body runs and hands every buffer back: the inputs as they were, the written ones with their
    pieces written. -/
noncomputable def kernelRun0_B (c : Dev nD) (i : grid0.Coords) (arg1 : Memref sig .tc .vmem S256x3 .f32) (harg1 : arg1.IsWhole) (arg2 : Memref sig .tc .vmem S3x512 .f32) (harg2 : arg2.IsWhole) (arg3 : Memref sig .tc .vmem S1x512 .f32) (harg3 : arg3.IsWhole) (arg4 : Memref sig .tc .vmem S512x2560 .fp8e4m3) (harg4 : arg4.IsWhole) (arg5 : Memref sig .tc .vmem S16x2560 .f32) (harg5 : arg5.IsWhole) (arg6 : Memref sig .tc .vmem S1x2560 .f32) (harg6 : arg6.IsWhole) (arg7 : Memref sig .tc .vmem S1280x2560 .bf16) (harg7 : arg7.IsWhole) (arg8 : Memref sig .tc .vmem S1280x2560 .f32) (harg8 : arg8.IsWhole) (arg9 : Memref sig .tc .vmem S1280x512 .bf16) (harg9 : arg9.IsWhole) (hc0 : ¬cond0_0 i) (hc1 : ¬cond0_1 i)
    (x0 : Vec F S256x3 .f32) (x1 : Vec F S3x512 .f32) (x2 : Vec F S1x512 .f32) (x3 : Vec F S512x2560 .fp8e4m3) (x4 : Vec F S16x2560 .f32) (x5 : Vec F S1x2560 .f32) (xs0 : Vec F S1280x2560 .f32) :
    Σ' (L6 : List (View.Piece (Elt F) S1280x2560 .bf16)), Σ' (LS0 : List (View.Piece (Elt F) S1280x2560 .f32)), { LT1 : List (View.Piece (Elt F) S1280x512 .bf16) //
      ∀ (xi6 : Vec F S1280x2560 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_layer1 i arg1 harg1 arg2 harg2 arg3 harg3 arg4 harg4 arg5 harg5 arg6 harg6 arg7 harg7 arg8 harg8 arg9 harg9) K } := by
  refine ⟨[], ?_, ?_, fun xi6 E K => ?run⟩
  case run =>
    simp only [cc0_layer1_eq_skeleton]; unfold cc0_layer1_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

/-- The run of case B at point `t`: on the point's staging buffers and the blocks they hold. -/
abbrev run0_B (c : Dev nD) (t : Fin cfg0.N) (hc0 : ¬cond0_0 (grid0.coords t)) (hc1 : ¬cond0_1 (grid0.coords t)) (xs0 : Vec F S1280x2560 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) xs0

/-- Case B stores nothing into output 6 (the window is idle at its points and not written back there):
    no pieces — a placeholder (junk read back) that nothing consults, since at these points the window is neither
    written back nor read at the next point (Lib/Pipeline.lean "Idle points"). -/
def out0_B_6 (c : Dev nD) (t : Fin cfg0.N) (hc0 : ¬cond0_0 (grid0.coords t)) (hc1 : ¬cond0_1 (grid0.coords t)) (xs0 : Vec F S1280x2560 .f32) : Vec F S1280x2560 .bf16 :=
  VO0_6.read (Elt F) (VO0_6.writes (Elt F) VO0_6.junk (run0_B V c t hc0 hc1 xs0).1)

/-- Case B's pieces for scratch `arg8`, which the kernel carries between points, cover it: 5 pieces of `S1280x512` tiling it (Lib/Ring.lean `Piece.tiledL`). -/
theorem scover0_B_0 (c : Dev nD) (t : Fin cfg0.N) (hc0 : ¬cond0_0 (grid0.coords t)) (hc1 : ¬cond0_1 (grid0.coords t)) (xs0 : Vec F S1280x2560 .f32) (y : S1280x2560.Idx) :
    ∃ pc ∈ (run0_B V c t hc0 hc1 xs0).2.1, y ∈ pc.1.set :=
  View.cover_of_tiledL (run0_B V c t hc0 hc1 xs0).2.1 S1280x512.size (by sl_kernel_rfl) y

/-- What case B leaves in scratch `arg8`: its pieces read back over junk. -/
def sout0_B_0 (c : Dev nD) (t : Fin cfg0.N) (hc0 : ¬cond0_0 (grid0.coords t)) (hc1 : ¬cond0_1 (grid0.coords t)) (xs0 : Vec F S1280x2560 .f32) : Vec F S1280x2560 .f32 :=
  VS0_0.read (Elt F) (VS0_0.writes (Elt F) VS0_0.junk (run0_B V c t hc0 hc1 xs0).2.1)

-- (the run's proof term is large: the definition's epilogue — `abstractNestedProofs` — walks it past the default budget)
set_option maxHeartbeats 1000000 in
/-- What the body's stores leave in each buffer it writes, as pieces, at the last point, with the proof that from the inputs
    at their contents the body runs and hands every buffer back: the inputs as they were, the written ones with their
    pieces written. -/
noncomputable def kernelRun0_C (c : Dev nD) (i : grid0.Coords) (arg1 : Memref sig .tc .vmem S256x3 .f32) (harg1 : arg1.IsWhole) (arg2 : Memref sig .tc .vmem S3x512 .f32) (harg2 : arg2.IsWhole) (arg3 : Memref sig .tc .vmem S1x512 .f32) (harg3 : arg3.IsWhole) (arg4 : Memref sig .tc .vmem S512x2560 .fp8e4m3) (harg4 : arg4.IsWhole) (arg5 : Memref sig .tc .vmem S16x2560 .f32) (harg5 : arg5.IsWhole) (arg6 : Memref sig .tc .vmem S1x2560 .f32) (harg6 : arg6.IsWhole) (arg7 : Memref sig .tc .vmem S1280x2560 .bf16) (harg7 : arg7.IsWhole) (arg8 : Memref sig .tc .vmem S1280x2560 .f32) (harg8 : arg8.IsWhole) (arg9 : Memref sig .tc .vmem S1280x512 .bf16) (harg9 : arg9.IsWhole) (hc0 : ¬cond0_0 i) (hc1 : cond0_1 i)
    (x0 : Vec F S256x3 .f32) (x1 : Vec F S3x512 .f32) (x2 : Vec F S1x512 .f32) (x3 : Vec F S512x2560 .fp8e4m3) (x4 : Vec F S16x2560 .f32) (x5 : Vec F S1x2560 .f32) (xs0 : Vec F S1280x2560 .f32) :
    Σ' (L6 : List (View.Piece (Elt F) S1280x2560 .bf16)), Σ' (LS0 : List (View.Piece (Elt F) S1280x2560 .f32)), { LT1 : List (View.Piece (Elt F) S1280x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_layer1 i arg1 harg1 arg2 harg2 arg3 harg3 arg4 harg4 arg5 harg5 arg6 harg6 arg7 harg7 arg8 harg8 arg9 harg9) K } := by
  refine ⟨?_, ?_, ?_, fun E K => ?run⟩
  case run =>
    simp only [cc0_layer1_eq_skeleton]; unfold cc0_layer1_skel
    simp only [k0_part6_eq_skeleton, k0_part7_eq_skeleton, k0_part8_eq_skeleton, k0_part9_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

/-- The run of case C at point `t`: on the point's staging buffers and the blocks they hold. -/
abbrev run0_C (c : Dev nD) (t : Fin cfg0.N) (hc0 : ¬cond0_0 (grid0.coords t)) (hc1 : cond0_1 (grid0.coords t)) (xs0 : Vec F S1280x2560 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) xs0

/-- Case C's pieces for output 6 tile its block (25 stores of `S256x512`, checked by the kernel's evaluation: Lib/Ring.lean `Piece.tiledL`, linear in the pieces, through a loop's `@[irreducible]` trip theorem too), so they cover it. -/
theorem cover0_C_6 (c : Dev nD) (t : Fin cfg0.N) (hc0 : ¬cond0_0 (grid0.coords t)) (hc1 : cond0_1 (grid0.coords t)) (xs0 : Vec F S1280x2560 .f32) (y : S1280x2560.Idx) :
    ∃ pc ∈ (run0_C V c t hc0 hc1 xs0).1, y ∈ pc.1.set :=
  View.cover_of_tiledL (run0_C V c t hc0 hc1 xs0).1 S256x512.size (by sl_kernel_rfl) y

/-- What case C leaves in output 6's staging buffer: its pieces read back over junk. -/
def out0_C_6 (c : Dev nD) (t : Fin cfg0.N) (hc0 : ¬cond0_0 (grid0.coords t)) (hc1 : cond0_1 (grid0.coords t)) (xs0 : Vec F S1280x2560 .f32) : Vec F S1280x2560 .bf16 :=
  VO0_6.read (Elt F) (VO0_6.writes (Elt F) VO0_6.junk (run0_C V c t hc0 hc1 xs0).1)

/-- Case C's pieces for scratch `arg8`, which the kernel carries between points, cover it: 5 pieces of `S1280x512` tiling it (Lib/Ring.lean `Piece.tiledL`). -/
theorem scover0_C_0 (c : Dev nD) (t : Fin cfg0.N) (hc0 : ¬cond0_0 (grid0.coords t)) (hc1 : cond0_1 (grid0.coords t)) (xs0 : Vec F S1280x2560 .f32) (y : S1280x2560.Idx) :
    ∃ pc ∈ (run0_C V c t hc0 hc1 xs0).2.1, y ∈ pc.1.set :=
  View.cover_of_tiledL (run0_C V c t hc0 hc1 xs0).2.1 S1280x512.size (by sl_kernel_rfl) y

/-- What case C leaves in scratch `arg8`: its pieces read back over junk. -/
def sout0_C_0 (c : Dev nD) (t : Fin cfg0.N) (hc0 : ¬cond0_0 (grid0.coords t)) (hc1 : cond0_1 (grid0.coords t)) (xs0 : Vec F S1280x2560 .f32) : Vec F S1280x2560 .f32 :=
  VS0_0.read (Elt F) (VS0_0.writes (Elt F) VS0_0.junk (run0_C V c t hc0 hc1 xs0).2.1)

end Cert.KernelIdeal.Whole

end
-- ==== Proof.KernelIdeal.Layer1.lean ====
module

public import proofs.«01_k».proof.Proof.KernelIdeal.Layer1Runs

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the core's buffers when the layer's call is entered
variable (V : (c : Dev nD) → (b : Ref sig .tc) → Buf (Elt F) ((c : Thread nD τ).loc b))

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x2560 .bf16 × Vec F S1280x2560 .f32
  | 0, hn => (out0_A_6 V c ⟨0, hn⟩ ((hcond0_0 ⟨0, hn⟩).mpr (Nat.zero_mod _)) (fun h => (fun h => by (try dsimp only at h); omega) ((hcond0_1 ⟨0, hn⟩).mp h)), sout0_A_0 V c ⟨0, hn⟩ ((hcond0_0 ⟨0, hn⟩).mpr (Nat.zero_mod _)) (fun h => (fun h => by (try dsimp only at h); omega) ((hcond0_1 ⟨0, hn⟩).mp h)))
  | n + 1, hn =>
    if h0 : (n + 1) % 32 = 0 then
      if h1 : (n + 1) % 32 = 31 then
        False.elim (by have hN : n + 1 < 32 := lt_of_lt_of_eq hn (show cfg0.N = 32 from N_0); omega)
      else
        (out0_A_6 V c ⟨n + 1, hn⟩ ((hcond0_0 ⟨n + 1, hn⟩).mpr h0) (fun h => h1 ((hcond0_1 ⟨n + 1, hn⟩).mp h)), sout0_A_0 V c ⟨n + 1, hn⟩ ((hcond0_0 ⟨n + 1, hn⟩).mpr h0) (fun h => h1 ((hcond0_1 ⟨n + 1, hn⟩).mp h)))
    else
      if h1 : (n + 1) % 32 = 31 then
        (out0_C_6 V c ⟨n + 1, hn⟩ (fun h => h0 ((hcond0_0 ⟨n + 1, hn⟩).mp h)) ((hcond0_1 ⟨n + 1, hn⟩).mpr h1) (outsAt0 c n (Nat.lt_of_succ_lt hn)).2, sout0_C_0 V c ⟨n + 1, hn⟩ (fun h => h0 ((hcond0_0 ⟨n + 1, hn⟩).mp h)) ((hcond0_1 ⟨n + 1, hn⟩).mpr h1) (outsAt0 c n (Nat.lt_of_succ_lt hn)).2)
      else
        (out0_B_6 V c ⟨n + 1, hn⟩ (fun h => h0 ((hcond0_0 ⟨n + 1, hn⟩).mp h)) (fun h => h1 ((hcond0_1 ⟨n + 1, hn⟩).mp h)) (outsAt0 c n (Nat.lt_of_succ_lt hn)).2, sout0_B_0 V c ⟨n + 1, hn⟩ (fun h => h0 ((hcond0_0 ⟨n + 1, hn⟩).mp h)) (fun h => h1 ((hcond0_1 ⟨n + 1, hn⟩).mp h)) (outsAt0 c n (Nat.lt_of_succ_lt hn)).2)

/-- `outsAt0` at a point of case A: that case's contents. -/
theorem outsAt0_A (c : Dev nD) (t : Fin cfg0.N) (h0 : t.val % 32 = 0) (h1 : ¬t.val % 32 = 31) :
    outsAt0 V c t.val t.isLt = (out0_A_6 V c t ((hcond0_0 t).mpr h0) (fun h => h1 ((hcond0_1 t).mp h)), sout0_A_0 V c t ((hcond0_0 t).mpr h0) (fun h => h1 ((hcond0_1 t).mp h))) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 V c t.val t.isLt = (out0_B_6 V c t (fun h => h0 ((hcond0_0 t).mp h)) (fun h => h1 ((hcond0_1 t).mp h)) (outsAt0 V c (t.val - 1) (Nat.lt_of_le_of_lt (Nat.sub_le _ _) t.isLt)).2, sout0_B_0 V c t (fun h => h0 ((hcond0_0 t).mp h)) (fun h => h1 ((hcond0_1 t).mp h)) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 V c t.val t.isLt = (out0_C_6 V c t (fun h => h0 ((hcond0_0 t).mp h)) ((hcond0_1 t).mpr h1) (outsAt0 V c (t.val - 1) (Nat.lt_of_le_of_lt (Nat.sub_le _ _) t.isLt)).2, sout0_C_0 V c t (fun h => h0 ((hcond0_0 t).mp h)) ((hcond0_1 t).mpr h1) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ d, owns (c : Thread nD τ) scM0_1 fullShare d) ∗ Rest0 c) ∗ (∃ r, prngReg c r))

theorem PhiS_zero0 (c : Dev nD) (n : ℕ) (h : n ≤ cfg0.N) (hz : n = 0) : PhiS0 V c n h = Pipeline.ΦA spec0 c := by
  subst hz; rfl

/-- After point `n` (before point `n + 1`): the carried scratch at that point's contents. -/
theorem PhiS_succ0 (c : Dev nD) (n : ℕ) (hn : n < cfg0.N) :
    PhiS0 V c (n + 1) hn = iprop(iprop(owns (c : Thread nD τ) scM0_0 fullShare ((outsAt0 V c n hn).2) ∗ (∃ d, owns (c : Thread nD τ) scM0_1 fullShare d) ∗ Rest0 c) ∗ (∃ r, prngReg c r)) := rfl

/-- Before a point that is not the first: the carried scratch at what the point before left. -/
theorem PhiS_pos0 (c : Dev nD) (n : ℕ) (h : n ≤ cfg0.N) (hz : n ≠ 0) :
    PhiS0 V c n h = iprop(iprop(owns (c : Thread nD τ) scM0_0 fullShare ((outsAt0 V c (n - 1) (by omega)).2) ∗ (∃ d, owns (c : Thread nD τ) scM0_1 fullShare d) ∗ Rest0 c) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc0 (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos0`; at anything at the first point, `PhiS_zero0`), the other scratch buffers and the generator register at some state, and takes the carried scratch back at this point's contents (`PhiS_succ0`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS_succ0]
  have hN : t.val < 32 := lt_of_lt_of_eq t.isLt (show cfg0.N = 32 from N_0)
  by_cases h0 : t.val % 32 = 0
  · by_cases h1 : t.val % 32 = 31
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      by_cases hz : t.val = 0
      · rw [PhiS_castSucc0 V c t, PhiS_zero0 V c _ _ hz, PhiA0_eq]
        rw [outsAt0_A V c t h0 h1]
        unfold sout0_A_0; (try dsimp only)
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((run0_A V c t ((hcond0_0 t).mpr h0) (fun h => h1 ((hcond0_1 t).mp h))).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%fT1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 V c t _ _)
            isplitl [HS1]
            · iexists _; unfold owns; iexists _; isplitr
              swap; · iexact HS1
              ipureintro; rfl
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · exfalso; have hN : t.val < 32 := lt_of_lt_of_eq t.isLt (show cfg0.N = 32 from N_0); omega
  · by_cases h1 : t.val % 32 = 31
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6_C t (fun h => h0 ((hcond0_0 t).mp h)) ((hcond0_1 t).mpr h1)], after0_6]
      by_cases hz : t.val = 0
      · exfalso; have hN : t.val < 32 := lt_of_lt_of_eq t.isLt (show cfg0.N = 32 from N_0); omega
      · rw [PhiS_castSucc0 V c t, PhiS_pos0 V c _ _ hz]
        rw [outsAt0_C V c t h0 h1]
        unfold out0_C_6 sout0_C_0; (try dsimp only)
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((run0_C V c t (fun h => h0 ((hcond0_0 t).mp h)) ((hcond0_1 t).mpr h1) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%fT1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 V c t _ _ _)
            isplitl [HS1]
            · iexists _; unfold owns; iexists _; isplitr
              swap; · iexact HS1
              ipureintro; rfl
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 V c t _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc0 V c t, PhiS_pos0 V c _ _ hz]
        rw [outsAt0_B V c t h0 h1]
        unfold sout0_B_0; (try dsimp only)
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((run0_B V c t (fun h => h0 ((hcond0_0 t).mp h)) (fun h => h1 ((hcond0_1 t).mp h)) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%fT1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 V c t _ _ _)
            isplitl [HS1]
            · iexists _; unfold owns; iexists _; isplitr
              swap; · iexact HS1
              ipureintro; rfl
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS_zero0 V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS_pos0 V c _ _ ht, PhiA0_eq]
  iintro ⟨⟨HS0, HS1, HR⟩, Hg⟩
  isplitl [HS0 HS1 HR]
  · isplitl [HS0]
    · iexists _; iexact HS0
    isplitl [HS1]
    · iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Whole

end
-- ==== Proof.KernelIdeal.Layer2Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the core's buffers when the layer's call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, e0]
    word_cmp
   : ∀ t : Fin grid1.N, cond1_0 (grid1.coords t) ↔ t.val % 32 = 0)

/-- The condition of the body's `scf.if` 1 (`k1_h2`), from the grid coordinates (the skeleton's scalar
    chain substituted). -/
abbrev cond1_1 (i : grid1.Coords) : Prop := k1_cond2 i = 1#1
/-- It holds at the last point only — by arithmetic of the point. -/
theorem hcond1_1 : ∀ t : Fin cfg1.N, cond1_1 (grid1.coords t) ↔ t.val % 32 = 31 :=
  (fun t => by
    have ht : t.val < 32 := Nat.lt_of_lt_of_eq t.isLt N_1
    have e0 : (grid1.coords t 0).val = t.val / 1 % 32 := Pipeline.Grid.coords_val t 0 (by decide) rfl
    simp only [cond1_1, k1_cond2, e0]
    word_cmp
   : ∀ t : Fin grid1.N, cond1_1 (grid1.coords t) ↔ t.val % 32 = 31)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 9 is never idle (an output stored at every point, under no condition). -/
theorem liveAt1_9 : ∀ t : Fin cfg1.N, cfg1.idle 9 (grid1.coords t) = false := fun _ => rfl
/-- Window 10 is never idle (an output stored at every point, under no condition). -/
theorem liveAt1_10 : ∀ t : Fin cfg1.N, cfg1.idle 10 (grid1.coords t) = false := fun _ => rfl
/-- At the points of case A the printed configuration (`Cfg.idle`) calls output 7 idle: the case stores nothing into it. -/
theorem idleAt1_7_A : ∀ t : Fin cfg1.N, cond1_0 (grid1.coords t) → ¬cond1_1 (grid1.coords t) → cfg1.idle 7 (grid1.coords t) = true := by decide +kernel
/-- At the points of case A the pipeline does not write output 7's block back. -/
theorem noFlush1_7_A : ∀ t : Fin cfg1.N, cond1_0 (grid1.coords t) → ¬cond1_1 (grid1.coords t) → (cfg1.win 7).flush t = false := by decide +kernel
/-- At the points of case B the printed configuration (`Cfg.idle`) calls output 7 idle: the case stores nothing into it. -/
theorem idleAt1_7_B : ∀ t : Fin cfg1.N, ¬cond1_0 (grid1.coords t) → ¬cond1_1 (grid1.coords t) → cfg1.idle 7 (grid1.coords t) = true := by decide +kernel
/-- At the points of case B the pipeline does not write output 7's block back. -/
theorem noFlush1_7_B : ∀ t : Fin cfg1.N, ¬cond1_0 (grid1.coords t) → ¬cond1_1 (grid1.coords t) → (cfg1.win 7).flush t = false := by decide +kernel
/-- At the points of case C the printed configuration (`Cfg.idle`) calls output 7 live: the case stores into it. -/
theorem liveAt1_7_C : ∀ t : Fin cfg1.N, ¬cond1_0 (grid1.coords t) → cond1_1 (grid1.coords t) → cfg1.idle 7 (grid1.coords t) = false := by decide +kernel
/-- At the points of case A the printed configuration (`Cfg.idle`) calls output 8 idle: the case stores nothing into it. -/
theorem idleAt1_8_A : ∀ t : Fin cfg1.N, cond1_0 (grid1.coords t) → ¬cond1_1 (grid1.coords t) → cfg1.idle 8 (grid1.coords t) = true := by decide +kernel
/-- At the points of case A the pipeline does not write output 8's block back. -/
theorem noFlush1_8_A : ∀ t : Fin cfg1.N, cond1_0 (grid1.coords t) → ¬cond1_1 (grid1.coords t) → (cfg1.win 8).flush t = false := by decide +kernel
/-- At the points of case B the printed configuration (`Cfg.idle`) calls output 8 idle: the case stores nothing into it. -/
theorem idleAt1_8_B : ∀ t : Fin cfg1.N, ¬cond1_0 (grid1.coords t) → ¬cond1_1 (grid1.coords t) → cfg1.idle 8 (grid1.coords t) = true := by decide +kernel
/-- At the points of case B the pipeline does not write output 8's block back. -/
theorem noFlush1_8_B : ∀ t : Fin cfg1.N, ¬cond1_0 (grid1.coords t) → ¬cond1_1 (grid1.coords t) → (cfg1.win 8).flush t = false := by decide +kernel
/-- At the points of case C the printed configuration (`Cfg.idle`) calls output 8 live: the case stores into it. -/
theorem liveAt1_8_C : ∀ t : Fin cfg1.N, ¬cond1_0 (grid1.coords t) → cond1_1 (grid1.coords t) → cfg1.idle 8 (grid1.coords t) = false := by decide +kernel

/-! ## The kernel body on any staging memrefs: a subtype the run finds -/

/-- One staging buffer of output window 7, through which its contents are stated (`View.read_writes_of_cover`: the
    choice does not matter). -/
abbrev VO1_7 : View sig .tc .vmem S256x128 .f32 := (Memref.whole cc1_stg7_0 : Memref sig .tc .vmem S256x128 .f32).view
/-- One staging buffer of output window 8, through which its contents are stated (`View.read_writes_of_cover`: the
    choice does not matter). -/
abbrev VO1_8 : View sig .tc .vmem S256x128 .f32 := (Memref.whole cc1_stg8_0 : Memref sig .tc .vmem S256x128 .f32).view
/-- One staging buffer of output window 9, through which its contents are stated (`View.read_writes_of_cover`: the
    choice does not matter). -/
abbrev VO1_9 : View sig .tc .vmem S256x512 .f32 := (Memref.whole cc1_stg9_0 : Memref sig .tc .vmem S256x512 .f32).view
/-- One staging buffer of output window 10, through which its contents are stated (`View.read_writes_of_cover`: the
    choice does not matter). -/
abbrev VO1_10 : View sig .tc .vmem S256x512 .f32 := (Memref.whole cc1_stg10_0 : Memref sig .tc .vmem S256x512 .f32).view
/-- Each window's current staging memref at point `t`, spelled as the pipeline passes it (`bodyAt1`), and its wholeness. -/
abbrev ms1_0 (t : Fin cfg1.N) : Memref sig .tc .vmem S1280x2560 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2560x512 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S80x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .smem S1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x512 .f32 := win1_10.stage (cfg1.slots t 10)
abbrev hs1_10 (t : Fin cfg1.N) : (ms1_10 t).IsWhole := hstage1_10 ((cfg1.slots t 10).cast nbuf1_10)
/-- The scratch operands: whole scoped buffers of the kernel's own, passed beside the windows. -/
abbrev scM1_0 : Memref sig .tc .vmem S256x128 .f32 := Memref.whole cc1_scratch0
abbrev scM1_1 : Memref sig .tc .vmem S256x128 .f32 := Memref.whole cc1_scratch1
/-- The scratch `arg12` the kernel carries between points, as a view: what it holds is stated through it. -/
abbrev VS1_0 : View sig .tc .vmem S256x128 .f32 := scM1_0.view
/-- The scratch `arg13` the kernel carries between points, as a view: what it holds is stated through it. -/
abbrev VS1_1 : View sig .tc .vmem S256x128 .f32 := scM1_1.view

/-- The scoped buffers of the other layer, each at some contents: this layer's body leaves them alone. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop(Rest1 c ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole, Rest1,
    show ∀ P Q R : sProp 𝕄, iprop((P ∗ Q) ∗ R) = iprop(P ∗ Q ∗ R) from fun _ _ _ => BI.Entails.antisymm sep_assoc sep_assoc']
  rfl

-- (the run's proof term is large: the definition's epilogue — `abstractNestedProofs` — walks it past the default budget)
set_option maxHeartbeats 1000000 in
/-- What the body's stores leave in each buffer it writes, as pieces, at the first point, with the proof that from the inputs
    at their contents the body runs and hands every buffer back: the inputs as they were, the written ones with their
    pieces written. -/
noncomputable def kernelRun1_A (c : Dev nD) (i : grid1.Coords) (arg1 : Memref sig .tc .vmem S1280x2560 .bf16) (harg1 : arg1.IsWhole) (arg2 : Memref sig .tc .vmem S2560x512 .fp8e4m3) (harg2 : arg2.IsWhole) (arg3 : Memref sig .tc .vmem S80x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .smem S1x1 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x128 .f32) (harg12 : arg12.IsWhole) (arg13 : Memref sig .tc .vmem S256x128 .f32) (harg13 : arg13.IsWhole) (hc0 : cond1_0 i) (hc1 : ¬cond1_1 i)
    (x0 : Vec F S1280x2560 .bf16) (x1 : Vec F S2560x512 .fp8e4m3) (x2 : Vec F S80x512 .f32) (x3 : Vec F S1x512 .f32) (x4 : Vec F S1x512 .f32) (x5 : Vec F S256x1 .f32) (x6 : Vec F S1x1 .f32) :
    Σ' (L7 : List (View.Piece (Elt F) S256x128 .f32)), Σ' (L8 : List (View.Piece (Elt F) S256x128 .f32)), Σ' (L9 : List (View.Piece (Elt F) S256x512 .f32)), Σ' (L10 : List (View.Piece (Elt F) S256x512 .f32)), Σ' (LS0 : List (View.Piece (Elt F) S256x128 .f32)), { LS1 : List (View.Piece (Elt F) S256x128 .f32) //
      ∀ (xi7 : Vec F S256x128 .f32) (xi8 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_layer2 i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, ?_, ?_, fun xi7 xi8 E K => ?run⟩
  case run =>
    simp only [cc1_layer2_eq_skeleton]; unfold cc1_layer2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [HS0]; · iexists _; iexact HS0
    iexists _; iexact HS1

/-- The run of case A at point `t`: on the point's staging buffers and the blocks they hold. -/
abbrev run1_A (c : Dev nD) (t : Fin cfg1.N) (hc0 : cond1_0 (grid1.coords t)) (hc1 : ¬cond1_1 (grid1.coords t)) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t)

/-- Case A stores nothing into output 7 (the window is idle at its points and not written back there):
    no pieces — a placeholder (junk read back) that nothing consults, since at these points the window is neither
    written back nor read at the next point (Lib/Pipeline.lean "Idle points"). -/
def out1_A_7 (c : Dev nD) (t : Fin cfg1.N) (hc0 : cond1_0 (grid1.coords t)) (hc1 : ¬cond1_1 (grid1.coords t)) : Vec F S256x128 .f32 :=
  VO1_7.read (Elt F) (VO1_7.writes (Elt F) VO1_7.junk (run1_A V c t hc0 hc1).1)

/-- Case A stores nothing into output 8 (the window is idle at its points and not written back there):
    no pieces — a placeholder (junk read back) that nothing consults, since at these points the window is neither
    written back nor read at the next point (Lib/Pipeline.lean "Idle points"). -/
def out1_A_8 (c : Dev nD) (t : Fin cfg1.N) (hc0 : cond1_0 (grid1.coords t)) (hc1 : ¬cond1_1 (grid1.coords t)) : Vec F S256x128 .f32 :=
  VO1_8.read (Elt F) (VO1_8.writes (Elt F) VO1_8.junk (run1_A V c t hc0 hc1).2.1)

/-- Case A's pieces for output 9 tile its block (2 stores of `S256x256`, checked by the kernel's evaluation: Lib/Ring.lean `Piece.tiledL`, linear in the pieces, through a loop's `@[irreducible]` trip theorem too), so they cover it. -/
theorem cover1_A_9 (c : Dev nD) (t : Fin cfg1.N) (hc0 : cond1_0 (grid1.coords t)) (hc1 : ¬cond1_1 (grid1.coords t)) (y : S256x512.Idx) :
    ∃ pc ∈ (run1_A V c t hc0 hc1).2.2.1, y ∈ pc.1.set :=
  View.cover_of_tiledL (run1_A V c t hc0 hc1).2.2.1 S256x256.size (by sl_kernel_rfl) y

/-- What case A leaves in output 9's staging buffer: its pieces read back over junk. -/
def out1_A_9 (c : Dev nD) (t : Fin cfg1.N) (hc0 : cond1_0 (grid1.coords t)) (hc1 : ¬cond1_1 (grid1.coords t)) : Vec F S256x512 .f32 :=
  VO1_9.read (Elt F) (VO1_9.writes (Elt F) VO1_9.junk (run1_A V c t hc0 hc1).2.2.1)

/-- Case A's pieces for output 10 tile its block (2 stores of `S256x256`, checked by the kernel's evaluation: Lib/Ring.lean `Piece.tiledL`, linear in the pieces, through a loop's `@[irreducible]` trip theorem too), so they cover it. -/
theorem cover1_A_10 (c : Dev nD) (t : Fin cfg1.N) (hc0 : cond1_0 (grid1.coords t)) (hc1 : ¬cond1_1 (grid1.coords t)) (y : S256x512.Idx) :
    ∃ pc ∈ (run1_A V c t hc0 hc1).2.2.2.1, y ∈ pc.1.set :=
  View.cover_of_tiledL (run1_A V c t hc0 hc1).2.2.2.1 S256x256.size (by sl_kernel_rfl) y

/-- What case A leaves in output 10's staging buffer: its pieces read back over junk. -/
def out1_A_10 (c : Dev nD) (t : Fin cfg1.N) (hc0 : cond1_0 (grid1.coords t)) (hc1 : ¬cond1_1 (grid1.coords t)) : Vec F S256x512 .f32 :=
  VO1_10.read (Elt F) (VO1_10.writes (Elt F) VO1_10.junk (run1_A V c t hc0 hc1).2.2.2.1)

/-- Case A's pieces for scratch `arg12`, which the kernel carries between points, cover it: 3 pieces of `S256x128` tiling it (Lib/Ring.lean `Piece.tiledL`). -/
theorem scover1_A_0 (c : Dev nD) (t : Fin cfg1.N) (hc0 : cond1_0 (grid1.coords t)) (hc1 : ¬cond1_1 (grid1.coords t)) (y : S256x128.Idx) :
    ∃ pc ∈ (run1_A V c t hc0 hc1).2.2.2.2.1, y ∈ pc.1.set :=
  View.cover_of_tiledL (run1_A V c t hc0 hc1).2.2.2.2.1 S256x128.size (by sl_kernel_rfl) y

/-- What case A leaves in scratch `arg12`: its pieces read back over junk. -/
def sout1_A_0 (c : Dev nD) (t : Fin cfg1.N) (hc0 : cond1_0 (grid1.coords t)) (hc1 : ¬cond1_1 (grid1.coords t)) : Vec F S256x128 .f32 :=
  VS1_0.read (Elt F) (VS1_0.writes (Elt F) VS1_0.junk (run1_A V c t hc0 hc1).2.2.2.2.1)

/-- Case A's pieces for scratch `arg13`, which the kernel carries between points, cover it: 3 pieces of `S256x128` tiling it (Lib/Ring.lean `Piece.tiledL`). -/
theorem scover1_A_1 (c : Dev nD) (t : Fin cfg1.N) (hc0 : cond1_0 (grid1.coords t)) (hc1 : ¬cond1_1 (grid1.coords t)) (y : S256x128.Idx) :
    ∃ pc ∈ (run1_A V c t hc0 hc1).2.2.2.2.2.1, y ∈ pc.1.set :=
  View.cover_of_tiledL (run1_A V c t hc0 hc1).2.2.2.2.2.1 S256x128.size (by sl_kernel_rfl) y

/-- What case A leaves in scratch `arg13`: its pieces read back over junk. -/
def sout1_A_1 (c : Dev nD) (t : Fin cfg1.N) (hc0 : cond1_0 (grid1.coords t)) (hc1 : ¬cond1_1 (grid1.coords t)) : Vec F S256x128 .f32 :=
  VS1_1.read (Elt F) (VS1_1.writes (Elt F) VS1_1.junk (run1_A V c t hc0 hc1).2.2.2.2.2.1)

-- (the run's proof term is large: the definition's epilogue — `abstractNestedProofs` — walks it past the default budget)
set_option maxHeartbeats 1000000 in
/-- What the body's stores leave in each buffer it writes, as pieces, at a point between, with the proof that from the inputs
    at their contents the body runs and hands every buffer back: the inputs as they were, the written ones with their
    pieces written. -/
noncomputable def kernelRun1_B (c : Dev nD) (i : grid1.Coords) (arg1 : Memref sig .tc .vmem S1280x2560 .bf16) (harg1 : arg1.IsWhole) (arg2 : Memref sig .tc .vmem S2560x512 .fp8e4m3) (harg2 : arg2.IsWhole) (arg3 : Memref sig .tc .vmem S80x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .smem S1x1 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x128 .f32) (harg12 : arg12.IsWhole) (arg13 : Memref sig .tc .vmem S256x128 .f32) (harg13 : arg13.IsWhole) (hc0 : ¬cond1_0 i) (hc1 : ¬cond1_1 i)
    (x0 : Vec F S1280x2560 .bf16) (x1 : Vec F S2560x512 .fp8e4m3) (x2 : Vec F S80x512 .f32) (x3 : Vec F S1x512 .f32) (x4 : Vec F S1x512 .f32) (x5 : Vec F S256x1 .f32) (x6 : Vec F S1x1 .f32) (xs0 : Vec F S256x128 .f32) (xs1 : Vec F S256x128 .f32) :
    Σ' (L7 : List (View.Piece (Elt F) S256x128 .f32)), Σ' (L8 : List (View.Piece (Elt F) S256x128 .f32)), Σ' (L9 : List (View.Piece (Elt F) S256x512 .f32)), Σ' (L10 : List (View.Piece (Elt F) S256x512 .f32)), Σ' (LS0 : List (View.Piece (Elt F) S256x128 .f32)), { LS1 : List (View.Piece (Elt F) S256x128 .f32) //
      ∀ (xi7 : Vec F S256x128 .f32) (xi8 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_layer2 i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, ?_, ?_, fun xi7 xi8 E K => ?run⟩
  case run =>
    simp only [cc1_layer2_eq_skeleton]; unfold cc1_layer2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [HS0]; · iexists _; iexact HS0
    iexists _; iexact HS1

/-- The run of case B at point `t`: on the point's staging buffers and the blocks they hold. -/
abbrev run1_B (c : Dev nD) (t : Fin cfg1.N) (hc0 : ¬cond1_0 (grid1.coords t)) (hc1 : ¬cond1_1 (grid1.coords t)) (xs0 : Vec F S256x128 .f32) (xs1 : Vec F S256x128 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) xs0 xs1

/-- Case B stores nothing into output 7 (the window is idle at its points and not written back there):
    no pieces — a placeholder (junk read back) that nothing consults, since at these points the window is neither
    written back nor read at the next point (Lib/Pipeline.lean "Idle points"). -/
def out1_B_7 (c : Dev nD) (t : Fin cfg1.N) (hc0 : ¬cond1_0 (grid1.coords t)) (hc1 : ¬cond1_1 (grid1.coords t)) (xs0 : Vec F S256x128 .f32) (xs1 : Vec F S256x128 .f32) : Vec F S256x128 .f32 :=
  VO1_7.read (Elt F) (VO1_7.writes (Elt F) VO1_7.junk (run1_B V c t hc0 hc1 xs0 xs1).1)

/-- Case B stores nothing into output 8 (the window is idle at its points and not written back there):
    no pieces — a placeholder (junk read back) that nothing consults, since at these points the window is neither
    written back nor read at the next point (Lib/Pipeline.lean "Idle points"). -/
def out1_B_8 (c : Dev nD) (t : Fin cfg1.N) (hc0 : ¬cond1_0 (grid1.coords t)) (hc1 : ¬cond1_1 (grid1.coords t)) (xs0 : Vec F S256x128 .f32) (xs1 : Vec F S256x128 .f32) : Vec F S256x128 .f32 :=
  VO1_8.read (Elt F) (VO1_8.writes (Elt F) VO1_8.junk (run1_B V c t hc0 hc1 xs0 xs1).2.1)

/-- Case B's pieces for output 9 tile its block (2 stores of `S256x256`, checked by the kernel's evaluation: Lib/Ring.lean `Piece.tiledL`, linear in the pieces, through a loop's `@[irreducible]` trip theorem too), so they cover it. -/
theorem cover1_B_9 (c : Dev nD) (t : Fin cfg1.N) (hc0 : ¬cond1_0 (grid1.coords t)) (hc1 : ¬cond1_1 (grid1.coords t)) (xs0 : Vec F S256x128 .f32) (xs1 : Vec F S256x128 .f32) (y : S256x512.Idx) :
    ∃ pc ∈ (run1_B V c t hc0 hc1 xs0 xs1).2.2.1, y ∈ pc.1.set :=
  View.cover_of_tiledL (run1_B V c t hc0 hc1 xs0 xs1).2.2.1 S256x256.size (by sl_kernel_rfl) y

/-- What case B leaves in output 9's staging buffer: its pieces read back over junk. -/
def out1_B_9 (c : Dev nD) (t : Fin cfg1.N) (hc0 : ¬cond1_0 (grid1.coords t)) (hc1 : ¬cond1_1 (grid1.coords t)) (xs0 : Vec F S256x128 .f32) (xs1 : Vec F S256x128 .f32) : Vec F S256x512 .f32 :=
  VO1_9.read (Elt F) (VO1_9.writes (Elt F) VO1_9.junk (run1_B V c t hc0 hc1 xs0 xs1).2.2.1)

/-- Case B's pieces for output 10 tile its block (2 stores of `S256x256`, checked by the kernel's evaluation: Lib/Ring.lean `Piece.tiledL`, linear in the pieces, through a loop's `@[irreducible]` trip theorem too), so they cover it. -/
theorem cover1_B_10 (c : Dev nD) (t : Fin cfg1.N) (hc0 : ¬cond1_0 (grid1.coords t)) (hc1 : ¬cond1_1 (grid1.coords t)) (xs0 : Vec F S256x128 .f32) (xs1 : Vec F S256x128 .f32) (y : S256x512.Idx) :
    ∃ pc ∈ (run1_B V c t hc0 hc1 xs0 xs1).2.2.2.1, y ∈ pc.1.set :=
  View.cover_of_tiledL (run1_B V c t hc0 hc1 xs0 xs1).2.2.2.1 S256x256.size (by sl_kernel_rfl) y

/-- What case B leaves in output 10's staging buffer: its pieces read back over junk. -/
def out1_B_10 (c : Dev nD) (t : Fin cfg1.N) (hc0 : ¬cond1_0 (grid1.coords t)) (hc1 : ¬cond1_1 (grid1.coords t)) (xs0 : Vec F S256x128 .f32) (xs1 : Vec F S256x128 .f32) : Vec F S256x512 .f32 :=
  VO1_10.read (Elt F) (VO1_10.writes (Elt F) VO1_10.junk (run1_B V c t hc0 hc1 xs0 xs1).2.2.2.1)

/-- Case B's pieces for scratch `arg12`, which the kernel carries between points, cover it: 2 pieces of `S256x128` tiling it (Lib/Ring.lean `Piece.tiledL`). -/
theorem scover1_B_0 (c : Dev nD) (t : Fin cfg1.N) (hc0 : ¬cond1_0 (grid1.coords t)) (hc1 : ¬cond1_1 (grid1.coords t)) (xs0 : Vec F S256x128 .f32) (xs1 : Vec F S256x128 .f32) (y : S256x128.Idx) :
    ∃ pc ∈ (run1_B V c t hc0 hc1 xs0 xs1).2.2.2.2.1, y ∈ pc.1.set :=
  View.cover_of_tiledL (run1_B V c t hc0 hc1 xs0 xs1).2.2.2.2.1 S256x128.size (by sl_kernel_rfl) y

/-- What case B leaves in scratch `arg12`: its pieces read back over junk. -/
def sout1_B_0 (c : Dev nD) (t : Fin cfg1.N) (hc0 : ¬cond1_0 (grid1.coords t)) (hc1 : ¬cond1_1 (grid1.coords t)) (xs0 : Vec F S256x128 .f32) (xs1 : Vec F S256x128 .f32) : Vec F S256x128 .f32 :=
  VS1_0.read (Elt F) (VS1_0.writes (Elt F) VS1_0.junk (run1_B V c t hc0 hc1 xs0 xs1).2.2.2.2.1)

/-- Case B's pieces for scratch `arg13`, which the kernel carries between points, cover it: 2 pieces of `S256x128` tiling it (Lib/Ring.lean `Piece.tiledL`). -/
theorem scover1_B_1 (c : Dev nD) (t : Fin cfg1.N) (hc0 : ¬cond1_0 (grid1.coords t)) (hc1 : ¬cond1_1 (grid1.coords t)) (xs0 : Vec F S256x128 .f32) (xs1 : Vec F S256x128 .f32) (y : S256x128.Idx) :
    ∃ pc ∈ (run1_B V c t hc0 hc1 xs0 xs1).2.2.2.2.2.1, y ∈ pc.1.set :=
  View.cover_of_tiledL (run1_B V c t hc0 hc1 xs0 xs1).2.2.2.2.2.1 S256x128.size (by sl_kernel_rfl) y

/-- What case B leaves in scratch `arg13`: its pieces read back over junk. -/
def sout1_B_1 (c : Dev nD) (t : Fin cfg1.N) (hc0 : ¬cond1_0 (grid1.coords t)) (hc1 : ¬cond1_1 (grid1.coords t)) (xs0 : Vec F S256x128 .f32) (xs1 : Vec F S256x128 .f32) : Vec F S256x128 .f32 :=
  VS1_1.read (Elt F) (VS1_1.writes (Elt F) VS1_1.junk (run1_B V c t hc0 hc1 xs0 xs1).2.2.2.2.2.1)

-- (the run's proof term is large: the definition's epilogue — `abstractNestedProofs` — walks it past the default budget)
set_option maxHeartbeats 1000000 in
/-- What the body's stores leave in each buffer it writes, as pieces, at the last point, with the proof that from the inputs
    at their contents the body runs and hands every buffer back: the inputs as they were, the written ones with their
    pieces written. -/
noncomputable def kernelRun1_C (c : Dev nD) (i : grid1.Coords) (arg1 : Memref sig .tc .vmem S1280x2560 .bf16) (harg1 : arg1.IsWhole) (arg2 : Memref sig .tc .vmem S2560x512 .fp8e4m3) (harg2 : arg2.IsWhole) (arg3 : Memref sig .tc .vmem S80x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .smem S1x1 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x128 .f32) (harg12 : arg12.IsWhole) (arg13 : Memref sig .tc .vmem S256x128 .f32) (harg13 : arg13.IsWhole) (hc0 : ¬cond1_0 i) (hc1 : cond1_1 i)
    (x0 : Vec F S1280x2560 .bf16) (x1 : Vec F S2560x512 .fp8e4m3) (x2 : Vec F S80x512 .f32) (x3 : Vec F S1x512 .f32) (x4 : Vec F S1x512 .f32) (x5 : Vec F S256x1 .f32) (x6 : Vec F S1x1 .f32) (xs0 : Vec F S256x128 .f32) (xs1 : Vec F S256x128 .f32) :
    Σ' (L7 : List (View.Piece (Elt F) S256x128 .f32)), Σ' (L8 : List (View.Piece (Elt F) S256x128 .f32)), Σ' (L9 : List (View.Piece (Elt F) S256x512 .f32)), Σ' (L10 : List (View.Piece (Elt F) S256x512 .f32)), Σ' (LS0 : List (View.Piece (Elt F) S256x128 .f32)), { LS1 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_layer2 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc1_layer2_eq_skeleton]; unfold cc1_layer2_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [HS0]; · iexists _; iexact HS0
    iexists _; iexact HS1

/-- The run of case C at point `t`: on the point's staging buffers and the blocks they hold. -/
abbrev run1_C (c : Dev nD) (t : Fin cfg1.N) (hc0 : ¬cond1_0 (grid1.coords t)) (hc1 : cond1_1 (grid1.coords t)) (xs0 : Vec F S256x128 .f32) (xs1 : Vec F S256x128 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hc0 hc1 (iblk1 V c 0 t) (iblk1 V c 1 t) (iblk1 V c 2 t) (iblk1 V c 3 t) (iblk1 V c 4 t) (iblk1 V c 5 t) (iblk1 V c 6 t) xs0 xs1

/-- Case C's pieces for output 7 tile its block (1 store of `S256x128`, checked by the kernel's evaluation: Lib/Ring.lean `Piece.tiledL`, linear in the pieces, through a loop's `@[irreducible]` trip theorem too), so they cover it. -/
theorem cover1_C_7 (c : Dev nD) (t : Fin cfg1.N) (hc0 : ¬cond1_0 (grid1.coords t)) (hc1 : cond1_1 (grid1.coords t)) (xs0 : Vec F S256x128 .f32) (xs1 : Vec F S256x128 .f32) (y : S256x128.Idx) :
    ∃ pc ∈ (run1_C V c t hc0 hc1 xs0 xs1).1, y ∈ pc.1.set :=
  View.cover_of_tiledL (run1_C V c t hc0 hc1 xs0 xs1).1 S256x128.size (by sl_kernel_rfl) y

/-- What case C leaves in output 7's staging buffer: its pieces read back over junk. -/
def out1_C_7 (c : Dev nD) (t : Fin cfg1.N) (hc0 : ¬cond1_0 (grid1.coords t)) (hc1 : cond1_1 (grid1.coords t)) (xs0 : Vec F S256x128 .f32) (xs1 : Vec F S256x128 .f32) : Vec F S256x128 .f32 :=
  VO1_7.read (Elt F) (VO1_7.writes (Elt F) VO1_7.junk (run1_C V c t hc0 hc1 xs0 xs1).1)

/-- Case C's pieces for output 8 tile its block (1 store of `S256x128`, checked by the kernel's evaluation: Lib/Ring.lean `Piece.tiledL`, linear in the pieces, through a loop's `@[irreducible]` trip theorem too), so they cover it. -/
theorem cover1_C_8 (c : Dev nD) (t : Fin cfg1.N) (hc0 : ¬cond1_0 (grid1.coords t)) (hc1 : cond1_1 (grid1.coords t)) (xs0 : Vec F S256x128 .f32) (xs1 : Vec F S256x128 .f32) (y : S256x128.Idx) :
    ∃ pc ∈ (run1_C V c t hc0 hc1 xs0 xs1).2.1, y ∈ pc.1.set :=
  View.cover_of_tiledL (run1_C V c t hc0 hc1 xs0 xs1).2.1 S256x128.size (by sl_kernel_rfl) y

/-- What case C leaves in output 8's staging buffer: its pieces read back over junk. -/
def out1_C_8 (c : Dev nD) (t : Fin cfg1.N) (hc0 : ¬cond1_0 (grid1.coords t)) (hc1 : cond1_1 (grid1.coords t)) (xs0 : Vec F S256x128 .f32) (xs1 : Vec F S256x128 .f32) : Vec F S256x128 .f32 :=
  VO1_8.read (Elt F) (VO1_8.writes (Elt F) VO1_8.junk (run1_C V c t hc0 hc1 xs0 xs1).2.1)

/-- Case C's pieces for output 9 tile its block (2 stores of `S256x256`, checked by the kernel's evaluation: Lib/Ring.lean `Piece.tiledL`, linear in the pieces, through a loop's `@[irreducible]` trip theorem too), so they cover it. -/
theorem cover1_C_9 (c : Dev nD) (t : Fin cfg1.N) (hc0 : ¬cond1_0 (grid1.coords t)) (hc1 : cond1_1 (grid1.coords t)) (xs0 : Vec F S256x128 .f32) (xs1 : Vec F S256x128 .f32) (y : S256x512.Idx) :
    ∃ pc ∈ (run1_C V c t hc0 hc1 xs0 xs1).2.2.1, y ∈ pc.1.set :=
  View.cover_of_tiledL (run1_C V c t hc0 hc1 xs0 xs1).2.2.1 S256x256.size (by sl_kernel_rfl) y

/-- What case C leaves in output 9's staging buffer: its pieces read back over junk. -/
def out1_C_9 (c : Dev nD) (t : Fin cfg1.N) (hc0 : ¬cond1_0 (grid1.coords t)) (hc1 : cond1_1 (grid1.coords t)) (xs0 : Vec F S256x128 .f32) (xs1 : Vec F S256x128 .f32) : Vec F S256x512 .f32 :=
  VO1_9.read (Elt F) (VO1_9.writes (Elt F) VO1_9.junk (run1_C V c t hc0 hc1 xs0 xs1).2.2.1)

/-- Case C's pieces for output 10 tile its block (2 stores of `S256x256`, checked by the kernel's evaluation: Lib/Ring.lean `Piece.tiledL`, linear in the pieces, through a loop's `@[irreducible]` trip theorem too), so they cover it. -/
theorem cover1_C_10 (c : Dev nD) (t : Fin cfg1.N) (hc0 : ¬cond1_0 (grid1.coords t)) (hc1 : cond1_1 (grid1.coords t)) (xs0 : Vec F S256x128 .f32) (xs1 : Vec F S256x128 .f32) (y : S256x512.Idx) :
    ∃ pc ∈ (run1_C V c t hc0 hc1 xs0 xs1).2.2.2.1, y ∈ pc.1.set :=
  View.cover_of_tiledL (run1_C V c t hc0 hc1 xs0 xs1).2.2.2.1 S256x256.size (by sl_kernel_rfl) y

/-- What case C leaves in output 10's staging buffer: its pieces read back over junk. -/
def out1_C_10 (c : Dev nD) (t : Fin cfg1.N) (hc0 : ¬cond1_0 (grid1.coords t)) (hc1 : cond1_1 (grid1.coords t)) (xs0 : Vec F S256x128 .f32) (xs1 : Vec F S256x128 .f32) : Vec F S256x512 .f32 :=
  VO1_10.read (Elt F) (VO1_10.writes (Elt F) VO1_10.junk (run1_C V c t hc0 hc1 xs0 xs1).2.2.2.1)

/-- Case C's pieces for scratch `arg12`, which the kernel carries between points, cover it: 2 pieces of `S256x128` tiling it (Lib/Ring.lean `Piece.tiledL`). -/
theorem scover1_C_0 (c : Dev nD) (t : Fin cfg1.N) (hc0 : ¬cond1_0 (grid1.coords t)) (hc1 : cond1_1 (grid1.coords t)) (xs0 : Vec F S256x128 .f32) (xs1 : Vec F S256x128 .f32) (y : S256x128.Idx) :
    ∃ pc ∈ (run1_C V c t hc0 hc1 xs0 xs1).2.2.2.2.1, y ∈ pc.1.set :=
  View.cover_of_tiledL (run1_C V c t hc0 hc1 xs0 xs1).2.2.2.2.1 S256x128.size (by sl_kernel_rfl) y

/-- What case C leaves in scratch `arg12`: its pieces read back over junk. -/
def sout1_C_0 (c : Dev nD) (t : Fin cfg1.N) (hc0 : ¬cond1_0 (grid1.coords t)) (hc1 : cond1_1 (grid1.coords t)) (xs0 : Vec F S256x128 .f32) (xs1 : Vec F S256x128 .f32) : Vec F S256x128 .f32 :=
  VS1_0.read (Elt F) (VS1_0.writes (Elt F) VS1_0.junk (run1_C V c t hc0 hc1 xs0 xs1).2.2.2.2.1)

/-- Case C's pieces for scratch `arg13`, which the kernel carries between points, cover it: 2 pieces of `S256x128` tiling it (Lib/Ring.lean `Piece.tiledL`). -/
theorem scover1_C_1 (c : Dev nD) (t : Fin cfg1.N) (hc0 : ¬cond1_0 (grid1.coords t)) (hc1 : cond1_1 (grid1.coords t)) (xs0 : Vec F S256x128 .f32) (xs1 : Vec F S256x128 .f32) (y : S256x128.Idx) :
    ∃ pc ∈ (run1_C V c t hc0 hc1 xs0 xs1).2.2.2.2.2.1, y ∈ pc.1.set :=
  View.cover_of_tiledL (run1_C V c t hc0 hc1 xs0 xs1).2.2.2.2.2.1 S256x128.size (by sl_kernel_rfl) y

/-- What case C leaves in scratch `arg13`: its pieces read back over junk. -/
def sout1_C_1 (c : Dev nD) (t : Fin cfg1.N) (hc0 : ¬cond1_0 (grid1.coords t)) (hc1 : cond1_1 (grid1.coords t)) (xs0 : Vec F S256x128 .f32) (xs1 : Vec F S256x128 .f32) : Vec F S256x128 .f32 :=
  VS1_1.read (Elt F) (VS1_1.writes (Elt F) VS1_1.junk (run1_C V c t hc0 hc1 xs0 xs1).2.2.2.2.2.1)

end Cert.KernelIdeal.Whole

end
-- ==== Proof.KernelIdeal.Layer2.lean ====
module

public import proofs.«01_k».proof.Proof.KernelIdeal.Layer2Runs

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the core's buffers when the layer's call is entered
variable (V : (c : Dev nD) → (b : Ref sig .tc) → Buf (Elt F) ((c : Thread nD τ).loc b))

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S256x128 .f32 × Vec F S256x128 .f32 × Vec F S256x512 .f32 × Vec F S256x512 .f32 × Vec F S256x128 .f32 × Vec F S256x128 .f32
  | 0, hn => (out1_A_7 V c ⟨0, hn⟩ ((hcond1_0 ⟨0, hn⟩).mpr (Nat.zero_mod _)) (fun h => (fun h => by (try dsimp only at h); omega) ((hcond1_1 ⟨0, hn⟩).mp h)), out1_A_8 V c ⟨0, hn⟩ ((hcond1_0 ⟨0, hn⟩).mpr (Nat.zero_mod _)) (fun h => (fun h => by (try dsimp only at h); omega) ((hcond1_1 ⟨0, hn⟩).mp h)), out1_A_9 V c ⟨0, hn⟩ ((hcond1_0 ⟨0, hn⟩).mpr (Nat.zero_mod _)) (fun h => (fun h => by (try dsimp only at h); omega) ((hcond1_1 ⟨0, hn⟩).mp h)), out1_A_10 V c ⟨0, hn⟩ ((hcond1_0 ⟨0, hn⟩).mpr (Nat.zero_mod _)) (fun h => (fun h => by (try dsimp only at h); omega) ((hcond1_1 ⟨0, hn⟩).mp h)), sout1_A_0 V c ⟨0, hn⟩ ((hcond1_0 ⟨0, hn⟩).mpr (Nat.zero_mod _)) (fun h => (fun h => by (try dsimp only at h); omega) ((hcond1_1 ⟨0, hn⟩).mp h)), sout1_A_1 V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 32 = 0 then
      if h1 : (n + 1) % 32 = 31 then
        False.elim (by have hN : n + 1 < 32 := lt_of_lt_of_eq hn (show cfg1.N = 32 from N_1); omega)
      else
        (out1_A_7 V c ⟨n + 1, hn⟩ ((hcond1_0 ⟨n + 1, hn⟩).mpr h0) (fun h => h1 ((hcond1_1 ⟨n + 1, hn⟩).mp h)), out1_A_8 V c ⟨n + 1, hn⟩ ((hcond1_0 ⟨n + 1, hn⟩).mpr h0) (fun h => h1 ((hcond1_1 ⟨n + 1, hn⟩).mp h)), out1_A_9 V c ⟨n + 1, hn⟩ ((hcond1_0 ⟨n + 1, hn⟩).mpr h0) (fun h => h1 ((hcond1_1 ⟨n + 1, hn⟩).mp h)), out1_A_10 V c ⟨n + 1, hn⟩ ((hcond1_0 ⟨n + 1, hn⟩).mpr h0) (fun h => h1 ((hcond1_1 ⟨n + 1, hn⟩).mp h)), sout1_A_0 V c ⟨n + 1, hn⟩ ((hcond1_0 ⟨n + 1, hn⟩).mpr h0) (fun h => h1 ((hcond1_1 ⟨n + 1, hn⟩).mp h)), sout1_A_1 V c ⟨n + 1, hn⟩ ((hcond1_0 ⟨n + 1, hn⟩).mpr h0) (fun h => h1 ((hcond1_1 ⟨n + 1, hn⟩).mp h)))
    else
      if h1 : (n + 1) % 32 = 31 then
        (out1_C_7 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2, out1_C_8 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2, out1_C_9 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2, out1_C_10 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2, sout1_C_0 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2, sout1_C_1 V c ⟨n + 1, hn⟩ (fun h => h0 ((hcond1_0 ⟨n + 1, hn⟩).mp h)) ((hcond1_1 ⟨n + 1, hn⟩).mpr h1) (outsAt1 c n (Nat.lt_of_succ_lt hn)).2.2.2.2.1 (outsAt1 c n (Nat.lt_of_succ_lt hn)).2.2.2.2.2)
      else
        (out1_B_7 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2, out1_B_8 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2, out1_B_9 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2, out1_B_10 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2, sout1_B_0 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2, sout1_B_1 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2.2.1 (outsAt1 c n (Nat.lt_of_succ_lt hn)).2.2.2.2.2)

/-- `outsAt1` at a point of case A: that case's contents. -/
theorem outsAt1_A (c : Dev nD) (t : Fin cfg1.N) (h0 : t.val % 32 = 0) (h1 : ¬t.val % 32 = 31) :
    outsAt1 V c t.val t.isLt = (out1_A_7 V c t ((hcond1_0 t).mpr h0) (fun h => h1 ((hcond1_1 t).mp h)), out1_A_8 V c t ((hcond1_0 t).mpr h0) (fun h => h1 ((hcond1_1 t).mp h)), out1_A_9 V c t ((hcond1_0 t).mpr h0) (fun h => h1 ((hcond1_1 t).mp h)), out1_A_10 V c t ((hcond1_0 t).mpr h0) (fun h => h1 ((hcond1_1 t).mp h)), sout1_A_0 V c t ((hcond1_0 t).mpr h0) (fun h => h1 ((hcond1_1 t).mp h)), sout1_A_1 V c t ((hcond1_0 t).mpr h0) (fun h => h1 ((hcond1_1 t).mp h))) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 32 = 0) (h1 : ¬t.val % 32 = 31) :
    outsAt1 V c t.val t.isLt = (out1_B_7 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_8 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_9 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_10 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_B_0 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_B_1 V c t (fun h => h0 ((hcond1_0 t).mp h)) (fun h => h1 ((hcond1_1 t).mp h)) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 32 = 0) (h1 : t.val % 32 = 31) :
    outsAt1 V c t.val t.isLt = (out1_C_7 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_C_8 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_C_9 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_C_10 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_C_0 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, sout1_C_1 V c t (fun h => h0 ((hcond1_0 t).mp h)) ((hcond1_1 t).mpr h1) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop(Rest1 c ∗ owns (c : Thread nD τ) scM1_0 fullShare ((outsAt1 V c n hn).2.2.2.2.1) ∗ owns (c : Thread nD τ) scM1_1 fullShare ((outsAt1 V c n hn).2.2.2.2.2)) ∗ (∃ r, prngReg c r))

theorem PhiS_zero1 (c : Dev nD) (n : ℕ) (h : n ≤ cfg1.N) (hz : n = 0) : PhiS1 V c n h = Pipeline.ΦA spec1 c := by
  subst hz; rfl

/-- After point `n` (before point `n + 1`): the carried scratch at that point's contents. -/
theorem PhiS_succ1 (c : Dev nD) (n : ℕ) (hn : n < cfg1.N) :
    PhiS1 V c (n + 1) hn = iprop(iprop(Rest1 c ∗ owns (c : Thread nD τ) scM1_0 fullShare ((outsAt1 V c n hn).2.2.2.2.1) ∗ owns (c : Thread nD τ) scM1_1 fullShare ((outsAt1 V c n hn).2.2.2.2.2)) ∗ (∃ r, prngReg c r)) := rfl

/-- Before a point that is not the first: the carried scratch at what the point before left. -/
theorem PhiS_pos1 (c : Dev nD) (n : ℕ) (h : n ≤ cfg1.N) (hz : n ≠ 0) :
    PhiS1 V c n h = iprop(iprop(Rest1 c ∗ owns (c : Thread nD τ) scM1_0 fullShare ((outsAt1 V c (n - 1) (by omega)).2.2.2.2.1) ∗ owns (c : Thread nD τ) scM1_1 fullShare ((outsAt1 V c (n - 1) (by omega)).2.2.2.2.2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2.1
    | ⟨10, _⟩ => (outsAt1 V c t.val t.isLt).2.2.2.1
  Φ t := PhiS1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc1 (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2.1 := by dsimp only [dat1]
theorem after1_10 (c : Dev nD) (t : Fin cfg1.N) : (dat1 V c).after 10 t = (outsAt1 V c t.val t.isLt).2.2.2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 14400000 in
/-- The body at any point: the inputs' memrefs hold their blocks (`before1_W`); the closed forms say which case the point is in (`by_cases`), an output the case reads before covering holds what the point before left (`before1_W_κ`); so the
    run applies; the invariant hands the body the carried scratch at what the point before left (`PhiS_pos1`; at anything at the first point, `PhiS_zero1`), the other scratch buffers and the generator register at some state, and takes the carried scratch back at this point's contents (`PhiS_succ1`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS_succ1]
  have hN : t.val < 32 := lt_of_lt_of_eq t.isLt (show cfg1.N = 32 from N_1)
  by_cases h0 : t.val % 32 = 0
  · by_cases h1 : t.val % 32 = 31
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      by_cases hz : t.val = 0
      · rw [PhiS_castSucc1 V c t, PhiS_zero1 V c _ _ hz, PhiA1_eq]
        rw [outsAt1_A V c t h0 h1]
        unfold out1_A_9 out1_A_10 sout1_A_0 sout1_A_1; (try dsimp only)
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((run1_A V c t ((hcond1_0 t).mpr h0) (fun h => h1 ((hcond1_1 t).mp h))).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        isplitl [HS1]; · iexact HS1
        iintro ⟨H0, H1, H2, H3, H4, H5, H6, H7, H8, ⟨%e9, H9⟩, ⟨%e10, H10⟩, ⟨%es0, HS0⟩, ⟨%es1, HS1⟩⟩
        isplitl [HR HS0 HS1 Hg]
        · isplitl [HR HS0 HS1]
          · isplitl [HR]
            · iexact HR
            isplitl [HS0]
            · unfold owns; iexists _; isplitr
              swap; · iexact HS0
              ipureintro; exact View.read_writes_of_cover _ _ _ _ _ (scover1_A_0 V c t _ _)
            unfold owns; iexists _; isplitr
            swap; · iexact HS1
            ipureintro; exact View.read_writes_of_cover _ _ _ _ _ (scover1_A_1 V c t _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]
        · unfold owns; iexists _; isplitr
          swap; · iexact H9
          ipureintro; exact View.read_writes_of_cover _ _ _ _ _ (cover1_A_9 V c t _ _)
        unfold owns; iexists _; isplitr
        swap; · iexact H10
        ipureintro; exact View.read_writes_of_cover _ _ _ _ _ (cover1_A_10 V c t _ _)
      · exfalso; have hN : t.val < 32 := lt_of_lt_of_eq t.isLt (show cfg1.N = 32 from N_1); omega
  · by_cases h1 : t.val % 32 = 31
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_C t (fun h => h0 ((hcond1_0 t).mp h)) ((hcond1_1 t).mpr h1)], after1_7]
      rw [show (dat1 V c).leavesExact 8 t = owns (c : Thread nD τ) (ms1_8 t) fullShare ((dat1 V c).after 8 t) from by
      unfold Dat.leavesExact; rw [liveAt1_8_C t (fun h => h0 ((hcond1_0 t).mp h)) ((hcond1_1 t).mpr h1)], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      by_cases hz : t.val = 0
      · exfalso; have hN : t.val < 32 := lt_of_lt_of_eq t.isLt (show cfg1.N = 32 from N_1); omega
      · rw [PhiS_castSucc1 V c t, PhiS_pos1 V c _ _ hz]
        rw [outsAt1_C V c t h0 h1]
        unfold out1_C_7 out1_C_8 out1_C_9 out1_C_10 sout1_C_0 sout1_C_1; (try dsimp only)
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((run1_C V c t (fun h => h0 ((hcond1_0 t).mp h)) ((hcond1_1 t).mpr h1) _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, H4, H5, H6, ⟨%e7, H7⟩, ⟨%e8, H8⟩, ⟨%e9, H9⟩, ⟨%e10, H10⟩, ⟨%es0, HS0⟩, ⟨%es1, HS1⟩⟩
        isplitl [HR HS0 HS1 Hg]
        · isplitl [HR HS0 HS1]
          · isplitl [HR]
            · iexact HR
            isplitl [HS0]
            · unfold owns; iexists _; isplitr
              swap; · iexact HS0
              ipureintro; exact View.read_writes_of_cover _ _ _ _ _ (scover1_C_0 V c t _ _ _ _)
            unfold owns; iexists _; isplitr
            swap; · iexact HS1
            ipureintro; exact View.read_writes_of_cover _ _ _ _ _ (scover1_C_1 V c t _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover1_C_7 V c t _ _ _ _)
        isplitl [H8]
        · unfold owns; iexists _; isplitr
          swap; · iexact H8
          ipureintro; exact View.read_writes_of_cover _ _ _ _ _ (cover1_C_8 V c t _ _ _ _)
        isplitl [H9]
        · unfold owns; iexists _; isplitr
          swap; · iexact H9
          ipureintro; exact View.read_writes_of_cover _ _ _ _ _ (cover1_C_9 V c t _ _ _ _)
        unfold owns; iexists _; isplitr
        swap; · iexact H10
        ipureintro; exact View.read_writes_of_cover _ _ _ _ _ (cover1_C_10 V c t _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      by_cases hz : t.val = 0
      · exfalso; have hN : t.val < 32 := lt_of_lt_of_eq t.isLt (show cfg1.N = 32 from N_1); omega
      · rw [PhiS_castSucc1 V c t, PhiS_pos1 V c _ _ hz]
        rw [outsAt1_B V c t h0 h1]
        unfold out1_B_9 out1_B_10 sout1_B_0 sout1_B_1; (try dsimp only)
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((run1_B V c t (fun h => h0 ((hcond1_0 t).mp h)) (fun h => h1 ((hcond1_1 t).mp h)) _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        isplitl [HS1]; · iexact HS1
        iintro ⟨H0, H1, H2, H3, H4, H5, H6, H7, H8, ⟨%e9, H9⟩, ⟨%e10, H10⟩, ⟨%es0, HS0⟩, ⟨%es1, HS1⟩⟩
        isplitl [HR HS0 HS1 Hg]
        · isplitl [HR HS0 HS1]
          · isplitl [HR]
            · iexact HR
            isplitl [HS0]
            · unfold owns; iexists _; isplitr
              swap; · iexact HS0
              ipureintro; exact View.read_writes_of_cover _ _ _ _ _ (scover1_B_0 V c t _ _ _ _)
            unfold owns; iexists _; isplitr
            swap; · iexact HS1
            ipureintro; exact View.read_writes_of_cover _ _ _ _ _ (scover1_B_1 V c t _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]
        · unfold owns; iexists _; isplitr
          swap; · iexact H9
          ipureintro; exact View.read_writes_of_cover _ _ _ _ _ (cover1_B_9 V c t _ _ _ _)
        unfold owns; iexists _; isplitr
        swap; · iexact H10
        ipureintro; exact View.read_writes_of_cover _ _ _ _ _ (cover1_B_10 V c t _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS_zero1 V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS_pos1 V c _ _ ht, PhiA1_eq]
  iintro ⟨⟨HR, HS0, HS1⟩, Hg⟩
  isplitl [HR HS0 HS1]
  · isplitl [HR]
    · iexact HR
    isplitl [HS0]
    · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Whole

end
-- ==== Proof.KernelIdeal.Run.lean ====
module

public import proofs.«01_k».proof.Proof.KernelIdeal.Layer1
public import proofs.«01_k».proof.Proof.KernelIdeal.Layer2

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5, main_v6, main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9, main_v10, main_v11, main_v12, main_v13, main_v14, main_v15, main_v16, main_v17]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the kit's implicit arguments are found by unifying its conclusion with this one, which takes unfolding plain
-- definitions in a metavariable's type
set_option backward.isDefEq.respectTransparency.types false in
/-- The launch: at the compiled mesh, from any memory with zero counters, every weakly fair execution of @main on the
    TensorCores terminates, nothing faulting, and every final state has every unscoped buffer at the last boundary's
    contents `W5` and every semaphore counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: every execution terminates, the argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c =>
     ⟨(h.1 c _ (mem_uc main_arg0 (by decide))).trans (W5_main_arg0 m ρ c),
      (h.1 c _ (mem_uc main_arg1 (by decide))).trans (W5_main_arg1 m ρ c),
      (h.1 c _ (mem_uc main_arg2 (by decide))).trans (W5_main_arg2 m ρ c),
      (h.1 c _ (mem_uc main_arg3 (by decide))).trans (W5_main_arg3 m ρ c),
      (h.1 c _ (mem_uc main_arg4 (by decide))).trans (W5_main_arg4 m ρ c),
      (h.1 c _ (mem_uc main_arg5 (by decide))).trans (W5_main_arg5 m ρ c),
      (h.1 c _ (mem_uc main_arg6 (by decide))).trans (W5_main_arg6 m ρ c),
      (h.1 c _ (mem_uc main_arg7 (by decide))).trans (W5_main_arg7 m ρ c),
      (h.1 c _ (mem_uc main_arg8 (by decide))).trans (W5_main_arg8 m ρ c),
      (h.1 c _ (mem_uc main_arg9 (by decide))).trans (W5_main_arg9 m ρ c),
      (h.1 c _ (mem_uc main_arg10 (by decide))).trans (W5_main_arg10 m ρ c),
      (h.1 c _ (mem_uc main_arg11 (by decide))).trans (W5_main_arg11 m ρ c)⟩, h.2⟩) (run_main m ρ)

end Cert.KernelIdeal.Whole

end
-- ==== Proof.Network.lean ====
module

public import Idealize.ShloMosaic.Lib.Pointwise
public import Idealize.ShloMosaic.Lib.Pipeline.ValueKit

/-! # The network over the reals

The formulas both programs compute, over plain index functions: one neuron's activation and its two derivative
coefficients, the five streams a layer posts (the value, the three directional derivatives, the Laplacian), a
dequantised contraction, and what a hidden layer makes of it. Nothing here mentions a program.

A row of the stacked streams is `256 * d + p`: stream `d` of point `p`. -/

@[expose] public section

noncomputable section

namespace Cert.Network

open Idealize.ShloMosaic

/-- The first derivative of `tanh` at `z`, written through its value. -/
def tanhSlope (z : EReal) : EReal := 1 - Ideal.tanh z * Ideal.tanh z

/-- The second derivative of `tanh` at `z`: `-2 · tanh z · tanhSlope z`. -/
def tanhBend (z : EReal) : EReal := Ideal.ofBits .f32 0xC0000000#32 * Ideal.tanh z * tanhSlope z

/-- The first layer's pre-activation of a point and a neuron. -/
def preact {n : ℕ} (X : Fin 256 → Fin 3 → EReal) (W : Fin 3 → Fin n → EReal) (B : Fin n → EReal) (p : Fin 256) (k : Fin n) : EReal :=
  X p 0 * W 0 k + X p 1 * W 1 k + X p 2 * W 2 k + B k

/-- The point a row of the stacked streams belongs to. -/
def pointOf (r : Fin 1280) : Fin 256 := ⟨r % 256, Nat.mod_lt _ (by norm_num)⟩

/-- The row of stream `d` that belongs to point `p`. -/
def streamRow (d : Fin 5) (p : Fin 256) : Fin 1280 := ⟨256 * d + p, by omega⟩

/-- The five streams the first layer posts, stacked: value, three derivatives, Laplacian. -/
def posted {n : ℕ} (X : Fin 256 → Fin 3 → EReal) (W : Fin 3 → Fin n → EReal) (B : Fin n → EReal) (r : Fin 1280) (k : Fin n) : EReal :=
  if (r : ℕ) < 256 then Ideal.tanh (preact X W B (pointOf r) k)
  else if (r : ℕ) < 512 then tanhSlope (preact X W B (pointOf r) k) * W 0 k
  else if (r : ℕ) < 768 then tanhSlope (preact X W B (pointOf r) k) * W 1 k
  else if (r : ℕ) < 1024 then tanhSlope (preact X W B (pointOf r) k) * W 2 k
  else tanhBend (preact X W B (pointOf r) k) * (W 0 k * W 0 k + W 1 k * W 1 k + W 2 k * W 2 k)

/-- A contraction against codes times the scale of their group of 32 rows. -/
def contracted {n g m : ℕ} (hg : n = g * 32) (S : Fin 1280 → Fin n → EReal) (C : Fin n → Fin m → EReal) (A : Fin g → Fin m → EReal)
    (r : Fin 1280) (j : Fin m) : EReal :=
  ∑ k : Fin n, S r k * (C k j * A ⟨k / 32, by omega⟩ j)

/-- What a hidden layer makes of its five contracted streams and its bias: value, three derivatives, Laplacian. -/
def hidden {m : ℕ} (Z : Fin 1280 → Fin m → EReal) (B : Fin m → EReal) (r : Fin 1280) (j : Fin m) : EReal :=
  if (r : ℕ) < 256 then Ideal.tanh (Z (streamRow 0 (pointOf r)) j + B j)
  else if (r : ℕ) < 1024 then tanhSlope (Z (streamRow 0 (pointOf r)) j + B j) * Z r j
  else tanhSlope (Z (streamRow 0 (pointOf r)) j + B j) * Z r j
    + tanhBend (Z (streamRow 0 (pointOf r)) j + B j) * (Z (streamRow 1 (pointOf r)) j * Z (streamRow 1 (pointOf r)) j
        + Z (streamRow 2 (pointOf r)) j * Z (streamRow 2 (pointOf r)) j + Z (streamRow 3 (pointOf r)) j * Z (streamRow 3 (pointOf r)) j)

/-- A stream at one neuron depends on that neuron's weights and bias alone. -/
theorem posted_congr {n n' : ℕ} {X X' : Fin 256 → Fin 3 → EReal} {W : Fin 3 → Fin n → EReal} {W' : Fin 3 → Fin n' → EReal}
    {B : Fin n → EReal} {B' : Fin n' → EReal} {r : Fin 1280} {k : Fin n} {k' : Fin n'}
    (hX : ∀ p d, X p d = X' p d) (hW : ∀ d, W d k = W' d k') (hB : B k = B' k') : posted X W B r k = posted X' W' B' r k' := by
  simp only [posted, preact, hX, hW, hB]

/-! ## The stacked streams row by row -/

theorem streamRow_zero (p : Fin 256) : streamRow 0 p = ⟨p, by omega⟩ := Fin.ext (Nat.zero_add _)

theorem pointOf_of {r : Fin 1280} {d : ℕ} {p : Fin 256} (h : (r : ℕ) = 256 * d + p) : pointOf r = p := by
  apply Fin.ext; simp only [pointOf]; omega

section

variable {n : ℕ} (X : Fin 256 → Fin 3 → EReal) (W : Fin 3 → Fin n → EReal) (B : Fin n → EReal) {r : Fin 1280} (p : Fin 256) (k : Fin n)

theorem posted_value (h : (r : ℕ) = 256 * 0 + p) : posted X W B r k = Ideal.tanh (preact X W B p k) := by
  rw [posted, pointOf_of h, if_pos (by omega)]

theorem posted_grad0 (h : (r : ℕ) = 256 * 1 + p) : posted X W B r k = tanhSlope (preact X W B p k) * W 0 k := by
  rw [posted, pointOf_of h, if_neg (by omega), if_pos (by omega)]

theorem posted_grad1 (h : (r : ℕ) = 256 * 2 + p) : posted X W B r k = tanhSlope (preact X W B p k) * W 1 k := by
  rw [posted, pointOf_of h, if_neg (by omega), if_neg (by omega), if_pos (by omega)]

theorem posted_grad2 (h : (r : ℕ) = 256 * 3 + p) : posted X W B r k = tanhSlope (preact X W B p k) * W 2 k := by
  rw [posted, pointOf_of h, if_neg (by omega), if_neg (by omega), if_neg (by omega), if_pos (by omega)]

theorem posted_lap (h : (r : ℕ) = 256 * 4 + p) :
    posted X W B r k = tanhBend (preact X W B p k) * (W 0 k * W 0 k + W 1 k * W 1 k + W 2 k * W 2 k) := by
  rw [posted, pointOf_of h, if_neg (by omega), if_neg (by omega), if_neg (by omega), if_neg (by omega)]

end

section

variable {m : ℕ} (Z : Fin 1280 → Fin m → EReal) (B : Fin m → EReal) {r : Fin 1280} (p : Fin 256) (j : Fin m)

theorem hidden_value (h : (r : ℕ) = 256 * 0 + p) : hidden Z B r j = Ideal.tanh (Z ⟨p, by omega⟩ j + B j) := by
  rw [← streamRow_zero, hidden, pointOf_of h, if_pos (by omega)]

theorem hidden_grad {d : ℕ} (h : (r : ℕ) = 256 * d + p) (h1 : 1 ≤ d) (h3 : d ≤ 3) :
    hidden Z B r j = tanhSlope (Z ⟨p, by omega⟩ j + B j) * Z r j := by
  rw [← streamRow_zero, hidden, pointOf_of h, if_neg (by omega), if_pos (by omega)]

theorem hidden_lap (h : (r : ℕ) = 256 * 4 + p) :
    hidden Z B r j = tanhSlope (Z ⟨p, by omega⟩ j + B j) * Z (streamRow 4 p) j
      + tanhBend (Z ⟨p, by omega⟩ j + B j) * (Z (streamRow 1 p) j * Z (streamRow 1 p) j
        + Z (streamRow 2 p) j * Z (streamRow 2 p) j + Z (streamRow 3 p) j * Z (streamRow 3 p) j) := by
  have hr : r = streamRow 4 p := Fin.ext h
  rw [← streamRow_zero, hidden, pointOf_of h, if_neg (by omega), if_neg (by omega), hr]

end

/-! ## The last layer -/

/-- The last layer's activation at a point and a neuron, from the contracted streams and the bias. -/
def lastValue {n : ℕ} (Z : Fin 1280 → Fin n → EReal) (B : Fin n → EReal) (p : Fin 256) (j : Fin n) : EReal :=
  Ideal.tanh (Z ⟨p, by omega⟩ j + B j)

/-- The Laplacian of the last layer's activation. -/
def lastLap {n : ℕ} (Z : Fin 1280 → Fin n → EReal) (B : Fin n → EReal) (p : Fin 256) (j : Fin n) : EReal :=
  tanhSlope (Z ⟨p, by omega⟩ j + B j) * Z ⟨1024 + p, by omega⟩ j
    + tanhBend (Z ⟨p, by omega⟩ j + B j) * (Z ⟨256 + p, by omega⟩ j * Z ⟨256 + p, by omega⟩ j
      + Z ⟨512 + p, by omega⟩ j * Z ⟨512 + p, by omega⟩ j + Z ⟨768 + p, by omega⟩ j * Z ⟨768 + p, by omega⟩ j)

theorem lastValue_congr {n n' : ℕ} {Z : Fin 1280 → Fin n → EReal} {Z' : Fin 1280 → Fin n' → EReal} {B : Fin n → EReal} {B' : Fin n' → EReal}
    {p : Fin 256} {j : Fin n} {j' : Fin n'} (hZ : ∀ r, Z r j = Z' r j') (hB : B j = B' j') : lastValue Z B p j = lastValue Z' B' p j' := by
  simp only [lastValue, hZ, hB]

theorem lastLap_congr {n n' : ℕ} {Z : Fin 1280 → Fin n → EReal} {Z' : Fin 1280 → Fin n' → EReal} {B : Fin n → EReal} {B' : Fin n' → EReal}
    {p : Fin 256} {j : Fin n} {j' : Fin n'} (hZ : ∀ r, Z r j = Z' r j') (hB : B j = B' j') : lastLap Z B p j = lastLap Z' B' p j' := by
  simp only [lastLap, hZ, hB]

/-! ## The weighted sum over the neurons -/

/-- What a point of 512 neurons adds to lane `l` of a row: its four neurons `l`, `l + 128`, `l + 256`, `l + 384`. -/
def laneTerms (H : Fin 512 → EReal) (w : Fin 512 → EReal) (l : Fin 128) : EReal :=
  ∑ q : Fin 4, H ⟨q * 128 + l, by omega⟩ * w ⟨q * 128 + l, by omega⟩

/-- The two halves of a lane's terms, each the pair a lane and the lane 128 further. -/
theorem laneTerms_halves (H w : Fin 512 → EReal) (l : Fin 128) :
    laneTerms H w l = (H ⟨l, by omega⟩ * w ⟨l, by omega⟩ + H ⟨128 + l, by omega⟩ * w ⟨128 + l, by omega⟩)
      + (H ⟨256 + l, by omega⟩ * w ⟨256 + l, by omega⟩ + H ⟨256 + (128 + l), by omega⟩ * w ⟨256 + (128 + l), by omega⟩) := by
  have e (a b : ℕ) (ha hb) (h : a = b) : H ⟨a, ha⟩ * w ⟨a, ha⟩ = H ⟨b, hb⟩ * w ⟨b, hb⟩ := by subst h; rfl
  rw [laneTerms, Fin.sum_univ_four, add_assoc, add_assoc, add_assoc]
  refine congrArg₂ (· + ·) (e _ _ _ _ ?_) (congrArg₂ (· + ·) (e _ _ _ _ ?_) (congrArg₂ (· + ·) (e _ _ _ _ ?_) (e _ _ _ _ ?_))) <;>
    simp only [Fin.val_zero, Fin.val_one, Fin.val_two, show ((3 : Fin 4) : ℕ) = 3 from rfl] <;> omega

/-- The lanes of the points' sums together are the sum over all the neurons. -/
theorem lanes_sum (f : Fin 16384 → EReal) (g : Fin 32 → Fin 4 → Fin 128 → EReal)
    (h : ∀ (t : Fin 32) (q : Fin 4) (l : Fin 128) (hl : t.val * 512 + (q.val * 128 + l.val) < 16384), g t q l = f ⟨t.val * 512 + (q.val * 128 + l.val), hl⟩) :
    (∑ l : Fin 128, ∑ t : Fin 32, ∑ q : Fin 4, g t q l) = ∑ j : Fin 16384, f j := by
  rw [Finset.sum_comm]
  refine (Finset.sum_congr rfl fun t _ => ?_).trans (Fin.sum_mul_add_fin 32 512 f rfl)
  rw [Finset.sum_comm]
  refine (Finset.sum_congr rfl fun q _ => Finset.sum_congr rfl fun l _ => h t q l (by omega)).trans ?_
  exact Fin.sum_mul_add_fin 4 128 (fun k : Fin 512 => f ⟨t.val * 512 + k.val, by omega⟩) rfl

end Cert.Network

end
-- ==== Proof.Blocks.lean ====
module

public import Idealize.ShloMosaic.Lib.Pipeline.ValueKit
public import Idealize.ShloMosaic.Lib.Pipeline.ReadBack

/-! # Reading a rectangle of a buffer with two axes -/

@[expose] public section

noncomputable section

namespace Cert.Network

open Idealize.ShloMosaic

/-- A load of a rectangle, at an index, is the buffer at the index shifted by the rectangle's offsets. -/
theorem ld_at {Val : EltTy → Type} {e : EltTy} {m n a b : ℕ} (X : (⟨2, ![m, n]⟩ : Shape).Idx → Val e) (o p : ℕ)
    (inb : ∀ i, (![o, p] : Fin 2 → ℕ) i + (![a, b] : Fin 2 → ℕ) i ≤ (⟨2, ![m, n]⟩ : Shape).size i)
    (x : (⟨2, ![a, b]⟩ : Shape).Idx) (y : (⟨2, ![m, n]⟩ : Shape).Idx)
    (h0 : (y 0 : ℕ) = o + (x 0 : ℕ)) (h1 : (y 1 : ℕ) = p + (x 1 : ℕ)) :
    View.ld X (Rect.unit (s := ⟨2, ![m, n]⟩) ![o, p] ![a, b] inb) x = X y := by
  refine congrArg X ?_
  funext i
  apply Fin.ext
  fin_cases i
  · exact ((congrArg (o + ·) (Nat.one_mul _)).trans h0.symm)
  · exact ((congrArg (p + ·) (Nat.one_mul _)).trans h1.symm)

/-- A load of a rectangle of a buffer that was written before: the rectangle of what the writes left. -/
theorem readCov_of_canon {Val : EltTy → Type} [∀ e, Nonempty (Val e)] {sig : RefSig} {κ : Kind} {sp : Space} {s : Shape} {e : EltTy}
    (v : View sig κ sp s e) {L : List (View.Piece Val s e)} {A : s.Idx → Val e} (h : A = View.canon L) (r : Rect s) :
    v.readCov L r.toLoadRect = View.ld A r := by
  rw [View.readCov_eq_canon', h]

/-- Where the later stores cover an index, what the earlier ones left does not matter. -/
theorem canon_append_of_cover {Val : EltTy → Type} [∀ e, Nonempty (Val e)] {s : Shape} {e : EltTy} :
    ∀ (L L' : List (View.Piece Val s e)) (y : s.Idx), (∃ p ∈ L, y ∈ p.1.set) → View.canon (L ++ L') y = View.canon L y
  | [], _, _, h => by obtain ⟨_, hm, _⟩ := h; exact absurd hm List.not_mem_nil
  | p :: L, L', y, h => by
    rw [List.cons_append]
    by_cases hy : y ∈ p.1.set
    · obtain ⟨r, w⟩ := p
      obtain ⟨x, rfl⟩ : ∃ x, r.emb x = y := r.exists_idx_of_mem hy
      rw [View.canon_cons_emb, View.canon_cons_emb]
    · rw [View.canon_cons_of_not_mem p _ hy, View.canon_cons_of_not_mem p _ hy]
      obtain ⟨q, hq, hyq⟩ := h
      rcases List.mem_cons.mp hq with rfl | hq
      · exact absurd hyq hy
      · exact canon_append_of_cover L L' y ⟨q, hq, hyq⟩

end Cert.Network

end
-- ==== Proof.KernelIdeal.Layer1Block.lean ====
module
public import proofs.«01_k».proof.Proof.KernelIdeal.Layer1
public import proofs.«01_k».proof.Proof.Network
public import proofs.«01_k».proof.Proof.Blocks
@[expose] public section
set_option maxRecDepth 16384
noncomputable section
namespace Cert.KernelIdeal.Whole
open Idealize.ShloMosaic Idealize.ShloMosaic.TcCoe Idealize.SL.Sem
open Cert.KernelIdeal Cert.KernelIdeal.Gen Cert.Network

variable (V : (c : Dev nD) → (b : Ref sig .tc) → Buf (Elt Ideal) ((c : Thread nD τ).loc b))

/-! ## The streams a point posts -/

section
variable (W : Vec Ideal S3x512 .f32) (X : Vec Ideal S256x3 .f32) (B : Vec Ideal S1x512 .f32) (x : S256x512.Idx)

/-- The streams of one block of 512 neurons, from the blocks the point holds. -/
def postedBlock : Vec Ideal S1280x512 .bf16 := fun y =>
  posted (fun p d => X (ix2 p d)) (fun d k => W (ix2 d k)) (fun k => B (ix2 0 k)) (y 0) (y 1)

theorem post_pay0 : k0_pay52 W X B x = Ideal.tanh (preact (fun p d => X (ix2 p d)) (fun d k => W (ix2 d k)) (fun k => B (ix2 0 k)) (x 0) (x 1)) := by
  pointwise [k0_pay52, k0_pay49, preact]
theorem post_pay1 : k0_pay53 W X B x = tanhSlope (preact (fun p d => X (ix2 p d)) (fun d k => W (ix2 d k)) (fun k => B (ix2 0 k)) (x 0) (x 1)) * W (ix2 0 (x 1)) := by
  pointwise [k0_pay53, k0_pay50, k0_pay49, preact, tanhSlope]
theorem post_pay2 : k0_pay55 (k0_pay54 W X B) x = tanhSlope (preact (fun p d => X (ix2 p d)) (fun d k => W (ix2 d k)) (fun k => B (ix2 0 k)) (x 0) (x 1)) * W (ix2 1 (x 1)) := by
  pointwise [k0_pay55, k0_pay54, k0_pay50, k0_pay49, preact, tanhSlope]
theorem post_pay3 : k0_pay56 W (k0_pay50 W X B) x = tanhSlope (preact (fun p d => X (ix2 p d)) (fun d k => W (ix2 d k)) (fun k => B (ix2 0 k)) (x 0) (x 1)) * W (ix2 2 (x 1)) := by
  pointwise [k0_pay56, k0_pay50, k0_pay49, preact, tanhSlope]
theorem post_pay4 : k0_pay57 W (k0_pay51 W X B) x = tanhBend (preact (fun p d => X (ix2 p d)) (fun d k => W (ix2 d k)) (fun k => B (ix2 0 k)) (x 0) (x 1))
    * (W (ix2 0 (x 1)) * W (ix2 0 (x 1)) + W (ix2 1 (x 1)) * W (ix2 1 (x 1)) + W (ix2 2 (x 1)) * W (ix2 2 (x 1))) := by
  pointwise [k0_pay57, k0_pay51, k0_pay50, k0_pay49, preact, tanhSlope, tanhBend]

/-- What a load of the whole streams buffer reads after the five stores of a point. -/
theorem read_posted :
    (View.whole cc0_scratch1).readCov
      ([⟨Rect.unit (s := S1280x512) ![1024, 0] ![256, 512] inb_S1280x512_S256x512_1024_0, k0_pay57 W (k0_pay51 W X B)⟩,
        ⟨Rect.unit (s := S1280x512) ![768, 0] ![256, 512] inb_S1280x512_S256x512_768_0, k0_pay56 W (k0_pay50 W X B)⟩,
        ⟨Rect.unit (s := S1280x512) ![512, 0] ![256, 512] inb_S1280x512_S256x512_512_0, k0_pay55 (k0_pay54 W X B)⟩,
        ⟨Rect.unit (s := S1280x512) ![256, 0] ![256, 512] inb_S1280x512_S256x512_256_0, k0_pay53 W X B⟩,
        ⟨Rect.unit (s := S1280x512) ![0, 0] ![256, 512] inb_S1280x512_S256x512_0_0, k0_pay52 W X B⟩] : List (View.Piece (Elt Ideal) S1280x512 .bf16))
      (Rect.unit (s := S1280x512) ![0, 0] ![1280, 512] inb_S1280x512_S1280x512_0_0).toLoadRect = postedBlock W X B := by
  rw [View.readCov_eq_canon']
  funext z
  obtain ⟨y, hy⟩ : ∃ y, y = ((Rect.unit (s := S1280x512) ![0, 0] ![1280, 512] inb_S1280x512_S1280x512_0_0).toLoadRect).idx z := ⟨_, rfl⟩
  have hz : y = z := by subst hy; funext a; fin_cases a <;> apply Fin.ext <;> simp [LoadRect.idx]
  rw [← hy, ← hz]
  clear hy hz
  unfold postedBlock
  canon_tiles x h
  · refine (post_pay4 W X B x).trans (Eq.trans ?_ (posted_lap _ _ _ (x 0) _ h0).symm)
    rw [show y 1 = x 1 from Fin.ext h1]
  · refine (post_pay3 W X B x).trans (Eq.trans ?_ (posted_grad2 _ _ _ (x 0) _ h0).symm)
    rw [show y 1 = x 1 from Fin.ext h1]
  · refine (post_pay2 W X B x).trans (Eq.trans ?_ (posted_grad1 _ _ _ (x 0) _ h0).symm)
    rw [show y 1 = x 1 from Fin.ext h1]
  · refine (post_pay1 W X B x).trans (Eq.trans ?_ (posted_grad0 _ _ _ (x 0) _ h0).symm)
    rw [show y 1 = x 1 from Fin.ext h1]
  · refine (post_pay0 W X B x).trans (Eq.trans ?_ (posted_value _ _ _ (x 0) _ (h0.trans (Nat.zero_add _).symm)).symm)
    rw [show y 1 = x 1 from Fin.ext h1]
end

/-! ## What a point adds to the accumulator -/

section
variable (w : Vec Ideal S512x512 .fp8e4m3) (s : Vec Ideal S16x512 .f32) (a : Vec Ideal S1280x512 .f32) (v : Vec Ideal S1280x512 .bf16) (x : S1280x512.Idx)

/-- A block's contraction against its dequantised codes, at an index. -/
def blockDot : EReal := ∑ k : Fin 512, (show EReal from v (ix2 (x 0) k)) * ((show EReal from w (ix2 k (x 1))) * (show EReal from s (ix2 ⟨k / 32, by omega⟩ (x 1))))

theorem acc_pay0 : k0_pay60 (k0_pay59 w s) a v x = (show EReal from a x) + blockDot w s v x := by
  unfold blockDot; pointwise [k0_pay60, k0_pay59]
theorem acc_pay1 : k0_pay61 w s a v x = (show EReal from a x) + blockDot w s v x := by
  unfold blockDot; pointwise [k0_pay61]
theorem acc_pay2 : k0_pay63 a (k0_pay62 w s v) x = (show EReal from a x) + blockDot w s v x := by
  unfold blockDot; pointwise [k0_pay63, k0_pay62]
theorem acc_pay3 : k0_pay64 w s a v x = (show EReal from a x) + blockDot w s v x := by
  unfold blockDot; pointwise [k0_pay64]
theorem acc_pay4 : k0_pay1 (k0_pay65 w s a v) x = (show EReal from a x) + blockDot w s v x := by
  unfold blockDot; pointwise [k0_pay1, k0_pay65]
end

/-- The contraction of a block of columns is the whole block's contraction at the shifted column. -/
theorem blockDot_at (w : Vec Ideal S512x2560 .fp8e4m3) (s : Vec Ideal S16x2560 .f32) (v : Vec Ideal S1280x512 .bf16)
    (o : ℕ) (hw hs) (x : S1280x512.Idx) (y : S1280x2560.Idx) (h0 : (y 0 : ℕ) = (x 0 : ℕ)) (h1 : (y 1 : ℕ) = o + (x 1 : ℕ)) :
    blockDot (View.ld w (Rect.unit (s := S512x2560) ![0, o] ![512, 512] hw)) (View.ld s (Rect.unit (s := S16x2560) ![0, o] ![16, 512] hs)) v x
      = contracted (g := 16) rfl (fun r k => v (ix2 r k)) (fun k j => w (ix2 k j)) (fun k j => s (ix2 k j)) (y 0) (y 1) := by
  unfold blockDot contracted
  refine Finset.sum_congr rfl fun k _ => ?_
  have e0 : x 0 = y 0 := Fin.ext h0.symm
  refine congrArg₂ (· * ·) (by rw [e0]) (congrArg₂ (· * ·) ?_ ?_)
  · exact ld_at w 0 o hw _ (ix2 k (y 1)) (Nat.zero_add _).symm h1
  · exact ld_at s 0 o hs _ (ix2 ⟨k / 32, by omega⟩ (y 1)) (Nat.zero_add _).symm h1

theorem read_acc (h : (Memref.whole cc0_scratch0).IsWhole) (xs : Vec Ideal S1280x2560 .f32) : View.read (Elt Ideal) (View.whole cc0_scratch0) (h.unread xs) = xs :=
  Memref.IsWhole.read_unread _ _

/-- One point's share of the first contraction. -/
def share (c : Dev nD) (t : Fin cfg0.N) (y : S1280x2560.Idx) : EReal :=
  contracted (g := 16) rfl (fun r k => postedBlock (iblk0 V c 1 t) (iblk0 V c 0 t) (iblk0 V c 2 t) (ix2 r k))
    (fun k j => iblk0 V c 3 t (ix2 k j)) (fun k j => iblk0 V c 4 t (ix2 k j)) (y 0) (y 1)

theorem sout0_B_at (c : Dev nD) (t : Fin cfg0.N) (hc0 : ¬cond0_0 (grid0.coords t)) (hc1 : ¬cond0_1 (grid0.coords t)) (xs : Vec Ideal S1280x2560 .f32) (y) :
    sout0_B_0 V c t hc0 hc1 xs y = (show EReal from xs y) + share V c t y := by
  unfold sout0_B_0 run0_B
  frame_out
  canon_tiles x h
  all_goals
    simp only [read_posted, read_acc, acc_pay0, acc_pay1, acc_pay2, acc_pay3, acc_pay4]
    first
    | exact congrArg₂ (· + ·) (ld_at xs 0 _ _ x y (h0.trans (Nat.zero_add _).symm) h1) (blockDot_at _ _ _ _ _ _ x y h0 h1)
    | exact congrArg₂ (· + ·) (ld_at xs 0 _ _ x y (h0.trans (Nat.zero_add _).symm) (h1.trans (Nat.zero_add _).symm)) (blockDot_at _ _ _ _ _ _ x y h0 (h1.trans (Nat.zero_add _).symm))
theorem sout0_C_at (c : Dev nD) (t : Fin cfg0.N) (hc0 : ¬cond0_0 (grid0.coords t)) (hc1 : cond0_1 (grid0.coords t)) (xs : Vec Ideal S1280x2560 .f32) (y) :
    sout0_C_0 V c t hc0 hc1 xs y = (show EReal from xs y) + share V c t y := by
  unfold sout0_C_0 run0_C
  frame_out
  canon_tiles x h
  all_goals
    simp only [read_posted, read_acc, acc_pay0, acc_pay1, acc_pay2, acc_pay3, acc_pay4]
    first
    | exact congrArg₂ (· + ·) (ld_at xs 0 _ _ x y (h0.trans (Nat.zero_add _).symm) h1) (blockDot_at _ _ _ _ _ _ x y h0 h1)
    | exact congrArg₂ (· + ·) (ld_at xs 0 _ _ x y (h0.trans (Nat.zero_add _).symm) (h1.trans (Nat.zero_add _).symm)) (blockDot_at _ _ _ _ _ _ x y h0 (h1.trans (Nat.zero_add _).symm))

theorem zero_fill (y) : k0_pay58 (F := Ideal) y = (0 : EReal) := by pointwise [k0_pay58]
theorem ld_zero (o : ℕ) (h) (x) :
    View.ld (Val := Elt Ideal) (e' := .f32) (k0_pay58 (F := Ideal)) (Rect.unit (s := S1280x2560) ![0, o] ![1280, 512] h) x = (0 : EReal) := zero_fill _

theorem sout0_A_at (c : Dev nD) (t : Fin cfg0.N) (hc0 : cond0_0 (grid0.coords t)) (hc1 : ¬cond0_1 (grid0.coords t)) (y) :
    sout0_A_0 V c t hc0 hc1 y = (0 : EReal) + share V c t y := by
  unfold sout0_A_0 run0_A
  frame_out
  refine (canon_append_of_cover [_, _, _, _, _] [_] y (View.cover_of_tiledL (s := S1280x2560) _ S1280x512.size (by sl_kernel_rfl) y)).trans ?_
  canon_tiles x h
  all_goals
    simp (disch := decide) only [↓View.readCov_skip, View.readCov_fill, read_posted, acc_pay0, acc_pay1, acc_pay2, acc_pay3, acc_pay4]
    first
    | exact congrArg₂ (· + ·) (ld_zero _ _ x) (blockDot_at _ _ _ _ _ _ x y h0 h1)
    | exact congrArg₂ (· + ·) (ld_zero _ _ x) (blockDot_at _ _ _ _ _ _ x y h0 (h1.trans (Nat.zero_add _).symm))

/-- The first layer's output at the last point, from the accumulator that point leaves. -/
theorem out0_C_at (c : Dev nD) (t : Fin cfg0.N) (hc0 : ¬cond0_0 (grid0.coords t)) (hc1 : cond0_1 (grid0.coords t)) (xs : Vec Ideal S1280x2560 .f32) (y) :
    out0_C_6 V c t hc0 hc1 xs y = hidden (fun r j => sout0_C_0 V c t hc0 hc1 xs (ix2 r j)) (fun j => iblk0 V c 5 t (ix2 0 j)) (y 0) (y 1) := by
  obtain ⟨A, hA⟩ : ∃ A, A = sout0_C_0 V c t hc0 hc1 xs := ⟨_, rfl⟩
  rw [← hA]
  unfold sout0_C_0 run0_C at hA
  frame_out at hA
  unfold out0_C_6 run0_C
  frame_out
  simp only [fun r => readCov_of_canon (View.whole cc0_scratch0) hA r]
  clear hA
  canon_tiles x h
  all_goals
    first
    | refine Eq.trans ?_ (hidden_lap _ _ (x 0) (y 1) h0).symm
    | refine Eq.trans ?_ (hidden_grad (d := 3) _ _ (x 0) (y 1) h0 (by decide) (by decide)).symm
    | refine Eq.trans ?_ (hidden_grad (d := 2) _ _ (x 0) (y 1) h0 (by decide) (by decide)).symm
    | refine Eq.trans ?_ (hidden_grad (d := 1) _ _ (x 0) (y 1) h0 (by decide) (by decide)).symm
    | refine Eq.trans ?_ (hidden_value _ _ (x 0) (y 1) (h0.trans (Nat.zero_add _).symm)).symm
    rw [show (y 1 : Fin 2560) = ⟨_, lt_of_eq_of_lt h1.symm (y 1).isLt⟩ from Fin.ext h1]
    try rw [show (y 0 : Fin 1280) = ⟨_, lt_of_eq_of_lt h0.symm (y 0).isLt⟩ from Fin.ext h0]
    open_payloads
    pointwise
    all_goals try simp only [tanhSlope, tanhBend]
    all_goals rfl
-- ==== Proof.KernelIdeal.Layer1Value.lean ====
/- What the first layer's array holds after its last grid point: the accumulator is the sum of the points' shares,
   that sum is one contraction over all 16384 neurons, and the last point stores the streams of its activation. -/
module
public import proofs.«01_k».proof.Proof.KernelIdeal.Layer1Block
@[expose] public section
set_option maxRecDepth 16384
noncomputable section
namespace Cert.KernelIdeal.Whole
open Idealize.ShloMosaic Idealize.ShloMosaic.TcCoe Idealize.SL.Sem
open Idealize.ShloMosaic.Pipeline (Dat)
open Cert.KernelIdeal Cert.KernelIdeal.Gen Cert.Network

variable (V : (c : Dev nD) → (b : Ref sig .tc) → Buf (Elt Ideal) ((c : Thread nD τ).loc b))

/-! ## The accumulator -/

theorem acc_first (c : Dev nD) (t : Fin cfg0.N) (h0 : t.val % 32 = 0) (y) : (outsAt0 V c t.val t.isLt).2 y = share V c t y := by
  rw [outsAt0_A V c t h0 (by omega)]
  dsimp only
  exact (sout0_A_at V c _ _ _ y).trans (zero_add _)

theorem acc_next (c : Dev nD) (t : Fin cfg0.N) (h0 : ¬t.val % 32 = 0) (y) :
    (outsAt0 V c t.val t.isLt).2 y = (show EReal from (outsAt0 V c (t.val - 1) (Nat.lt_of_le_of_lt (Nat.sub_le _ _) t.isLt)).2 y) + share V c t y := by
  by_cases h1 : t.val % 32 = 31
  · rw [outsAt0_C V c t h0 h1]
    dsimp only
    exact sout0_C_at V c _ _ _ _ y
  · rw [outsAt0_B V c t h0 h1]
    dsimp only
    exact sout0_B_at V c _ _ _ _ y

/-- After point `n` the accumulator is the sum of the shares of the points up to `n`. -/
theorem acc_sum (c : Dev nD) (y) : ∀ (n : ℕ) (h : n < cfg0.N),
    (show EReal from (outsAt0 V c n h).2 y) = ∑ s : Fin (n + 1), share V c ⟨s.val, lt_of_lt_of_le s.isLt h⟩ y
  | 0, h => (acc_first V c ⟨0, h⟩ (Nat.zero_mod _) y).trans (Fin.sum_univ_one fun s : Fin 1 => share V c ⟨s.val, lt_of_lt_of_le s.isLt h⟩ y).symm
  | n + 1, h => by
    have hN : n + 1 < 32 := lt_of_lt_of_eq h N_0
    have e := acc_next V c ⟨n + 1, h⟩ (by dsimp only; omega) y
    simp only [Nat.add_sub_cancel] at e
    rw [Fin.sum_univ_castSucc]
    exact e.trans (congrArg (· + share V c ⟨n + 1, h⟩ y) (acc_sum c y n (Nat.lt_of_succ_lt h)))

/-! ## The blocks a point holds, as parts of the arrays -/

theorem idx0 : ∀ t : Fin cfg0.N, win0_0.index t = ![0, 0] ∧ win0_1.index t = ![0, t.val] ∧ win0_2.index t = ![0, t.val]
    ∧ win0_3.index t = ![t.val, 0] ∧ win0_4.index t = ![t.val, 0] ∧ win0_5.index t = ![0, 0] := (by decide +kernel : ∀ t : Fin grid0.N, _)

section
variable (c : Dev nD) (t : Fin cfg0.N)
theorem blk0_0 (p : Fin 256) (d : Fin 3) : iblk0 V c 0 t (ix2 p d) = V c main_v0 (ix2 p d) := by
  blk_ext [iblk0, idx0 t]
theorem blk0_1 (d : Fin 3) (k : Fin 512) (h : t.val * 512 + k.val < 16384) : iblk0 V c 1 t (ix2 d k) = V c main_arg2 (ix2 d ⟨t.val * 512 + k.val, h⟩) := by
  blk_ext [iblk0, idx0 t]
theorem blk0_2 (k : Fin 512) (h : t.val * 512 + k.val < 16384) : iblk0 V c 2 t (ix2 0 k) = V c main_v1 (ix2 0 ⟨t.val * 512 + k.val, h⟩) := by
  blk_ext [iblk0, idx0 t]
theorem blk0_3 (k : Fin 512) (j : Fin 2560) (h : t.val * 512 + k.val < 16384) : iblk0 V c 3 t (ix2 k j) = V c main_arg4 (ix2 ⟨t.val * 512 + k.val, h⟩ j) := by
  blk_ext [iblk0, idx0 t]
theorem blk0_4 (g : Fin 16) (j : Fin 2560) (h : t.val * 16 + g.val < 512) : iblk0 V c 4 t (ix2 g j) = V c main_arg5 (ix2 ⟨t.val * 16 + g.val, h⟩ j) := by
  blk_ext [iblk0, idx0 t]
theorem blk0_5 (j : Fin 2560) : iblk0 V c 5 t (ix2 0 j) = V c main_v2 (ix2 0 j) := by
  blk_ext [iblk0, idx0 t]
end

/-! ## The shares together -/

/-- The first layer's streams, from its arrays. -/
def streams1 (c : Dev nD) : Fin 1280 → Fin 16384 → EReal :=
  posted (fun p d => V c main_v0 (ix2 p d)) (fun d k => V c main_arg2 (ix2 d k)) (fun k => V c main_v1 (ix2 0 k))

/-- The first contraction, from the arrays. -/
def product1 (c : Dev nD) : Fin 1280 → Fin 2560 → EReal :=
  contracted (n := 16384) (g := 512) rfl (streams1 V c) (fun k j => V c main_arg4 (ix2 k j)) (fun g j => V c main_arg5 (ix2 g j))

theorem shares_sum (c : Dev nD) (y : S1280x2560.Idx) (hn : ∀ s : Fin 32, s.val < cfg0.N) :
    (∑ s : Fin 32, share V c ⟨s.val, hn s⟩ y) = product1 V c (y 0) (y 1) := by
  unfold share product1 contracted
  refine Fin.sum_mul_add_congr fun s k hl => ?_
  refine congrArg₂ (· * ·) ?_ (congrArg₂ (· * ·) (blk0_3 V c ⟨s.val, hn s⟩ k (y 1) hl) ?_)
  · unfold postedBlock streams1
    exact posted_congr (fun p d => blk0_0 V c ⟨s.val, hn s⟩ p d) (fun d => blk0_1 V c ⟨s.val, hn s⟩ d k hl) (blk0_2 V c ⟨s.val, hn s⟩ k hl)
  · refine (blk0_4 V c ⟨s.val, hn s⟩ ⟨k / 32, by omega⟩ (y 1) (by dsimp only; omega)).trans ?_
    congr 2
    apply Fin.ext; dsimp only; omega

/-- The first layer's array, from the arrays it reads. -/
def layer1 (c : Dev nD) : Fin 1280 → Fin 2560 → EReal := hidden (product1 V c) (fun j => V c main_v2 (ix2 0 j))

/-- After the last point the output array holds the streams of the second hidden layer. -/
theorem layer1_array (c : Dev nD) : (dat0 V c).arrAt 6 cfg0.N = fun y : S1280x2560.Idx => layer1 V c (y 0) (y 1) := by
  obtain ⟨t, ht⟩ : ∃ t : Fin cfg0.N, t.val = 31 := ⟨⟨31, lt_of_lt_of_eq (by decide) N_0.symm⟩, rfl⟩
  refine (dat0 V c).arrAt_eq_of_after_last 6 t ((by decide +kernel : ∀ t : Fin grid0.N, t.val = 31 → (cfg0.win 6).WholeAt t) t ht) _ fun y => ?_
  blk_simp
  rw [after0_6]
  have hA : ∀ r j, (show EReal from (outsAt0 V c t.val t.isLt).2 (ix2 r j)) = product1 V c r j := fun r j => by
    refine (acc_sum V c (ix2 r j) t.val t.isLt).trans ?_
    obtain ⟨n, hn⟩ := t
    obtain rfl : n = 31 := ht
    exact shares_sum V c (ix2 r j) _
  have e := outsAt0_C V c t (by omega) (by omega)
  rw [e] at hA ⊢
  dsimp only at hA ⊢
  refine (out0_C_at V c _ _ _ _ y).trans ?_
  unfold layer1
  exact congrArg₂ (fun Z B => hidden Z B (y 0) (y 1)) (funext fun r => funext fun j => hA r j) (funext fun j => blk0_5 V c _ j)

end Cert.KernelIdeal.Whole
end
-- ==== Proof.KernelIdeal.Layer2Block.lean ====
/- What one grid point of the second layer computes from the blocks it holds: the activation and its Laplacian of 512
   neurons, what it adds to the two lane sums, and at the last point the two results read off those sums. -/
module
public import proofs.«01_k».proof.Proof.KernelIdeal.Layer2
public import proofs.«01_k».proof.Proof.Network
public import proofs.«01_k».proof.Proof.Blocks
@[expose] public section
set_option maxRecDepth 16384
noncomputable section
namespace Cert.KernelIdeal.Whole
open Idealize.ShloMosaic Idealize.ShloMosaic.TcCoe Idealize.SL.Sem
open Cert.KernelIdeal Cert.KernelIdeal.Gen Cert.Network

variable (V : (c : Dev nD) → (b : Ref sig .tc) → Buf (Elt Ideal) ((c : Thread nD τ).loc b))

/-! ## The payloads of a half of 256 neurons -/

section
variable (w : Vec Ideal S2560x256 .fp8e4m3) (s : Vec Ideal S80x256 .f32) (v : Vec Ideal S1280x2560 .bf16) (b : Vec Ideal S1x256 .f32)

/-- The streams contracted with a half's dequantised codes. -/
def halfDot (r : Fin 1280) (q : Fin 256) : EReal :=
  contracted (n := 2560) (g := 80) rfl (fun r k => v (ix2 r k)) (fun k j => w (ix2 k j)) (fun g j => s (ix2 g j)) r q

theorem dot_pay0 (x : S1280x256.Idx) : k1_pay6 w s v x = halfDot w s v (x 0) (x 1) := by
  unfold halfDot contracted; pointwise [k1_pay6]
theorem dot_pay1 (x : S1280x256.Idx) : k1_pay12 w s v x = halfDot w s v (x 0) (x 1) := by
  unfold halfDot contracted; pointwise [k1_pay12]

theorem value_pay0 (x : S256x256.Idx) : k1_pay7 w s v b x = lastValue (halfDot w s v) (fun j => b (ix2 0 j)) (x 0) (x 1) := by
  unfold lastValue; pointwise [k1_pay7]; simp only [dot_pay0]; rfl
theorem value_pay1 (x : S256x256.Idx) : k1_pay15 (k1_pay13 w s v) (k1_pay14 b) x = lastValue (halfDot w s v) (fun j => b (ix2 0 j)) (x 0) (x 1) := by
  unfold lastValue; pointwise [k1_pay15, k1_pay14, k1_pay13]; simp only [dot_pay1]; rfl

theorem lap_pay0 (x : S256x256.Idx) : k1_pay8 w s v b x = lastLap (halfDot w s v) (fun j => b (ix2 0 j)) (x 0) (x 1) := by
  unfold lastLap tanhSlope tanhBend; pointwise [k1_pay8]; simp only [dot_pay0, value_pay0]; rfl
theorem lap_pay1 (x : S256x256.Idx) : k1_pay16 (k1_pay12 w s v) (k1_pay13 w s v) (k1_pay14 b) x = lastLap (halfDot w s v) (fun j => b (ix2 0 j)) (x 0) (x 1) := by
  unfold lastLap tanhSlope tanhBend; pointwise [k1_pay16]; simp only [dot_pay1, value_pay1]; rfl
end

/-! ## The payloads of the lane sums -/

section
variable (a : FVec Ideal S256x256 .f32) (wo : Vec Ideal S1x256 .f32) (acc : Vec Ideal S256x128 .f32) (x : S256x128.Idx)

/-- The pair of weighted neurons a half adds to a lane. -/
def lanePair (p : Fin 256) (l : Fin 128) : EReal :=
  (show EReal from a (ix2 p ⟨l, by omega⟩)) * (show EReal from wo (ix2 0 ⟨l, by omega⟩))
    + (show EReal from a (ix2 p ⟨128 + l, by omega⟩)) * (show EReal from wo (ix2 0 ⟨128 + l, by omega⟩))

theorem lane_pay0 : k1_pay10 a wo acc x = (show EReal from acc x) + lanePair a wo (x 0) (x 1) := by
  unfold lanePair; pointwise [k1_pay10, k1_pay9]
theorem lane_pay1 : k1_pay11 a wo acc x = (show EReal from acc x) + lanePair a wo (x 0) (x 1) := by
  unfold lanePair; pointwise [k1_pay11, k1_pay9]
theorem lane_pay2 (z : FVec Ideal S256x256 .f32) (b : FVec Ideal S1x256 .f32) : k1_pay18 z b wo acc x = (show EReal from acc x) + lanePair (k1_pay15 z b) wo (x 0) (x 1) := by
  unfold lanePair; pointwise [k1_pay18, k1_pay17]
theorem lane_pay3 (d : FVec Ideal S1280x256 .f32) (z : FVec Ideal S256x256 .f32) (b : FVec Ideal S1x256 .f32) :
    k1_pay1 (k1_pay19 d z b wo acc) x = (show EReal from acc x) + lanePair (k1_pay16 d z b) wo (x 0) (x 1) := by
  unfold lanePair; pointwise [k1_pay1, k1_pay19, k1_pay17]
theorem zero_pay0 : k1_pay4 (F := Ideal) x = (0 : EReal) := by pointwise [k1_pay4]
theorem zero_pay1 : k1_pay5 (F := Ideal) x = (0 : EReal) := by pointwise [k1_pay5]

theorem res_pay (f : Vec Ideal S256x1 .f32) :
    k1_pay3 acc f x = (∑ l : Fin 128, (show EReal from acc (ix2 (x 0) l))) - (show EReal from f (ix2 (x 0) 0)) := by
  pointwise [k1_pay3]
theorem u_pay (b : Elt Ideal .f32) :
    k1_pay2 acc b x = (∑ l : Fin 128, (show EReal from acc (ix2 (x 0) l))) + (show EReal from b) := by
  pointwise [k1_pay2]
end

/-! ## A point -/

section
variable (c : Dev nD) (t : Fin cfg1.N)

/-- The streams contracted with the point's 512 columns. -/
def pointDot (r : Fin 1280) (j : Fin 512) : EReal :=
  contracted (n := 2560) (g := 80) rfl (fun r k => iblk1 V c 0 t (ix2 r k)) (fun k j => iblk1 V c 1 t (ix2 k j)) (fun g j => iblk1 V c 2 t (ix2 g j)) r j

/-- The activation of the point's neurons. -/
def pointValue (p : Fin 256) (j : Fin 512) : EReal := lastValue (pointDot V c t) (fun j => iblk1 V c 3 t (ix2 0 j)) p j
/-- Its Laplacian. -/
def pointLap (p : Fin 256) (j : Fin 512) : EReal := lastLap (pointDot V c t) (fun j => iblk1 V c 3 t (ix2 0 j)) p j

theorem halfDot_at (o : ℕ) (hw hs) (r : Fin 1280) (q : Fin 256) (j : Fin 512) (hj : (j : ℕ) = o + q) :
    halfDot (View.ld (Val := Elt Ideal) (iblk1 V c 1 t) (Rect.unit (s := S2560x512) ![0, o] ![2560, 256] hw)) (View.ld (Val := Elt Ideal) (iblk1 V c 2 t) (Rect.unit (s := S80x512) ![0, o] ![80, 256] hs)) (iblk1 V c 0 t) r q
      = pointDot V c t r j := by
  unfold halfDot pointDot contracted
  refine Finset.sum_congr rfl fun k _ => congrArg₂ (· * ·) rfl (congrArg₂ (· * ·) ?_ ?_)
  · exact ld_at (Val := Elt Ideal) (iblk1 V c 1 t) 0 o hw _ (ix2 k j) (Nat.zero_add _).symm hj
  · exact ld_at (Val := Elt Ideal) (iblk1 V c 2 t) 0 o hs _ (ix2 ⟨k / 32, by omega⟩ j) (Nat.zero_add _).symm hj

theorem halfValue_at (o : ℕ) (hw hs hb) (p : Fin 256) (q : Fin 256) (j : Fin 512) (hj : (j : ℕ) = o + q) :
    lastValue (halfDot (View.ld (Val := Elt Ideal) (iblk1 V c 1 t) (Rect.unit (s := S2560x512) ![0, o] ![2560, 256] hw)) (View.ld (Val := Elt Ideal) (iblk1 V c 2 t) (Rect.unit (s := S80x512) ![0, o] ![80, 256] hs)) (iblk1 V c 0 t))
      (fun j => View.ld (Val := Elt Ideal) (iblk1 V c 3 t) (Rect.unit (s := S1x512) ![0, o] ![1, 256] hb) (ix2 0 j)) p q = pointValue V c t p j :=
  lastValue_congr (fun r => halfDot_at V c t o hw hs r q j hj) (ld_at (Val := Elt Ideal) (iblk1 V c 3 t) 0 o hb _ (ix2 0 j) (Nat.zero_add _).symm hj)

theorem halfLap_at (o : ℕ) (hw hs hb) (p : Fin 256) (q : Fin 256) (j : Fin 512) (hj : (j : ℕ) = o + q) :
    lastLap (halfDot (View.ld (Val := Elt Ideal) (iblk1 V c 1 t) (Rect.unit (s := S2560x512) ![0, o] ![2560, 256] hw)) (View.ld (Val := Elt Ideal) (iblk1 V c 2 t) (Rect.unit (s := S80x512) ![0, o] ![80, 256] hs)) (iblk1 V c 0 t))
      (fun j => View.ld (Val := Elt Ideal) (iblk1 V c 3 t) (Rect.unit (s := S1x512) ![0, o] ![1, 256] hb) (ix2 0 j)) p q = pointLap V c t p j :=
  lastLap_congr (fun r => halfDot_at V c t o hw hs r q j hj) (ld_at (Val := Elt Ideal) (iblk1 V c 3 t) 0 o hb _ (ix2 0 j) (Nat.zero_add _).symm hj)

/-- The pair a half adds to a lane, from the point's neurons at the half's offset. -/
theorem lanePair_at (a : FVec Ideal S256x256 .f32) (H : Fin 512 → EReal) (o : ℕ) (hw) (p : Fin 256) (l : Fin 128) (j0 j1 : Fin 512)
    (h0 : (j0 : ℕ) = o + l) (h1 : (j1 : ℕ) = o + (128 + l)) (ha : ∀ (q : Fin 256) (j : Fin 512), (j : ℕ) = o + q → (show EReal from a (ix2 p q)) = H j) :
    lanePair a (View.ld (Val := Elt Ideal) (iblk1 V c 4 t) (Rect.unit (s := S1x512) ![0, o] ![1, 256] hw)) p l
      = H j0 * (show EReal from iblk1 V c 4 t (ix2 0 j0)) + H j1 * (show EReal from iblk1 V c 4 t (ix2 0 j1)) := by
  unfold lanePair
  refine congrArg₂ (· + ·) (congrArg₂ (· * ·) (ha _ _ h0) ?_) (congrArg₂ (· * ·) (ha _ _ h1) ?_)
  · exact ld_at (Val := Elt Ideal) (iblk1 V c 4 t) 0 o hw _ (ix2 0 j0) (Nat.zero_add _).symm h0
  · exact ld_at (Val := Elt Ideal) (iblk1 V c 4 t) 0 o hw _ (ix2 0 j1) (Nat.zero_add _).symm h1
end

theorem read_pu (h : (Memref.whole cc1_scratch0).IsWhole) (xs : Vec Ideal S256x128 .f32) : View.read (Elt Ideal) (View.whole cc1_scratch0) (h.unread xs) = xs :=
  Memref.IsWhole.read_unread _ _
theorem read_pl (h : (Memref.whole cc1_scratch1).IsWhole) (xs : Vec Ideal S256x128 .f32) : View.read (Elt Ideal) (View.whole cc1_scratch1) (h.unread xs) = xs :=
  Memref.IsWhole.read_unread _ _

/-- What a point adds to a lane of the first sum: its activations against the output weights. -/
def laneU (c : Dev nD) (t : Fin cfg1.N) (p : Fin 256) (l : Fin 128) : EReal :=
  laneTerms (pointValue V c t p) (fun j => iblk1 V c 4 t (ix2 0 j)) l
/-- What it adds to a lane of the second sum: its Laplacians against the output weights. -/
def laneL (c : Dev nD) (t : Fin cfg1.N) (p : Fin 256) (l : Fin 128) : EReal :=
  laneTerms (pointLap V c t p) (fun j => iblk1 V c 4 t (ix2 0 j)) l

theorem out1_A_9_at (c : Dev nD) (t : Fin cfg1.N) (hc0 : cond1_0 (grid1.coords t)) (hc1 : ¬cond1_1 (grid1.coords t)) (y : S256x512.Idx) :
    out1_A_9 V c t hc0 hc1 y = pointValue V c t (y 0) (y 1) := by
  unfold out1_A_9 run1_A
  frame_out
  canon_tiles x h
  all_goals rw [show (y 0 : Fin 256) = x 0 from Fin.ext h0]
  · exact (value_pay1 _ _ _ _ x).trans (halfValue_at V c t 256 _ _ _ (x 0) (x 1) (y 1) h1)
  · exact (value_pay0 _ _ _ _ x).trans (halfValue_at V c t 0 _ _ _ (x 0) (x 1) (y 1) (h1.trans (Nat.zero_add _).symm))
theorem out1_A_10_at (c : Dev nD) (t : Fin cfg1.N) (hc0 : cond1_0 (grid1.coords t)) (hc1 : ¬cond1_1 (grid1.coords t)) (y : S256x512.Idx) :
    out1_A_10 V c t hc0 hc1 y = pointLap V c t (y 0) (y 1) := by
  unfold out1_A_10 run1_A
  frame_out
  canon_tiles x h
  all_goals rw [show (y 0 : Fin 256) = x 0 from Fin.ext h0]
  · exact (lap_pay1 _ _ _ _ x).trans (halfLap_at V c t 256 _ _ _ (x 0) (x 1) (y 1) h1)
  · exact (lap_pay0 _ _ _ _ x).trans (halfLap_at V c t 0 _ _ _ (x 0) (x 1) (y 1) (h1.trans (Nat.zero_add _).symm))
theorem sout1_A_0_at (c : Dev nD) (t : Fin cfg1.N) (hc0 : cond1_0 (grid1.coords t)) (hc1 : ¬cond1_1 (grid1.coords t)) (y : S256x128.Idx) :
    sout1_A_0 V c t hc0 hc1 y = (0 : EReal) + laneU V c t (y 0) (y 1) := by
  unfold sout1_A_0 run1_A
  frame_out
  rw [lane_pay2, lane_pay0, zero_pay0, add_assoc]
  refine congrArg₂ (· + ·) rfl ((congrArg₂ (· + ·) ?_ ?_).trans (laneTerms_halves _ _ _).symm)
  · exact lanePair_at V c t _ _ 0 _ _ _ _ _ (Nat.zero_add _).symm (Nat.zero_add _).symm fun q j hj =>
      (value_pay0 _ _ _ _ (ix2 (y 0) q)).trans (halfValue_at V c t 0 _ _ _ (y 0) q j hj)
  · exact lanePair_at V c t _ _ 256 _ _ _ _ _ rfl rfl fun q j hj =>
      (value_pay1 _ _ _ _ (ix2 (y 0) q)).trans (halfValue_at V c t 256 _ _ _ (y 0) q j hj)
theorem sout1_A_1_at (c : Dev nD) (t : Fin cfg1.N) (hc0 : cond1_0 (grid1.coords t)) (hc1 : ¬cond1_1 (grid1.coords t)) (y : S256x128.Idx) :
    sout1_A_1 V c t hc0 hc1 y = (0 : EReal) + laneL V c t (y 0) (y 1) := by
  unfold sout1_A_1 run1_A
  frame_out
  rw [lane_pay3, lane_pay1, zero_pay1, add_assoc]
  refine congrArg₂ (· + ·) rfl ((congrArg₂ (· + ·) ?_ ?_).trans (laneTerms_halves _ _ _).symm)
  · exact lanePair_at V c t _ _ 0 _ _ _ _ _ (Nat.zero_add _).symm (Nat.zero_add _).symm fun q j hj =>
      (lap_pay0 _ _ _ _ (ix2 (y 0) q)).trans (halfLap_at V c t 0 _ _ _ (y 0) q j hj)
  · exact lanePair_at V c t _ _ 256 _ _ _ _ _ rfl rfl fun q j hj =>
      (lap_pay1 _ _ _ _ (ix2 (y 0) q)).trans (halfLap_at V c t 256 _ _ _ (y 0) q j hj)

theorem out1_B_9_at (c : Dev nD) (t : Fin cfg1.N) (hc0 : ¬cond1_0 (grid1.coords t)) (hc1 : ¬cond1_1 (grid1.coords t)) (xs xs' : Vec Ideal S256x128 .f32) (y : S256x512.Idx) :
    out1_B_9 V c t hc0 hc1 xs xs' y = pointValue V c t (y 0) (y 1) := by
  unfold out1_B_9 run1_B
  frame_out
  canon_tiles x h
  all_goals rw [show (y 0 : Fin 256) = x 0 from Fin.ext h0]
  · exact (value_pay1 _ _ _ _ x).trans (halfValue_at V c t 256 _ _ _ (x 0) (x 1) (y 1) h1)
  · exact (value_pay0 _ _ _ _ x).trans (halfValue_at V c t 0 _ _ _ (x 0) (x 1) (y 1) (h1.trans (Nat.zero_add _).symm))
theorem out1_B_10_at (c : Dev nD) (t : Fin cfg1.N) (hc0 : ¬cond1_0 (grid1.coords t)) (hc1 : ¬cond1_1 (grid1.coords t)) (xs xs' : Vec Ideal S256x128 .f32) (y : S256x512.Idx) :
    out1_B_10 V c t hc0 hc1 xs xs' y = pointLap V c t (y 0) (y 1) := by
  unfold out1_B_10 run1_B
  frame_out
  canon_tiles x h
  all_goals rw [show (y 0 : Fin 256) = x 0 from Fin.ext h0]
  · exact (lap_pay1 _ _ _ _ x).trans (halfLap_at V c t 256 _ _ _ (x 0) (x 1) (y 1) h1)
  · exact (lap_pay0 _ _ _ _ x).trans (halfLap_at V c t 0 _ _ _ (x 0) (x 1) (y 1) (h1.trans (Nat.zero_add _).symm))
theorem sout1_B_0_at (c : Dev nD) (t : Fin cfg1.N) (hc0 : ¬cond1_0 (grid1.coords t)) (hc1 : ¬cond1_1 (grid1.coords t)) (xs xs' : Vec Ideal S256x128 .f32) (y : S256x128.Idx) :
    sout1_B_0 V c t hc0 hc1 xs xs' y = (show EReal from xs y) + laneU V c t (y 0) (y 1) := by
  unfold sout1_B_0 run1_B
  frame_out
  rw [lane_pay2, lane_pay0, read_pu, add_assoc]
  refine congrArg₂ (· + ·) rfl ((congrArg₂ (· + ·) ?_ ?_).trans (laneTerms_halves _ _ _).symm)
  · exact lanePair_at V c t _ _ 0 _ _ _ _ _ (Nat.zero_add _).symm (Nat.zero_add _).symm fun q j hj =>
      (value_pay0 _ _ _ _ (ix2 (y 0) q)).trans (halfValue_at V c t 0 _ _ _ (y 0) q j hj)
  · exact lanePair_at V c t _ _ 256 _ _ _ _ _ rfl rfl fun q j hj =>
      (value_pay1 _ _ _ _ (ix2 (y 0) q)).trans (halfValue_at V c t 256 _ _ _ (y 0) q j hj)
theorem sout1_B_1_at (c : Dev nD) (t : Fin cfg1.N) (hc0 : ¬cond1_0 (grid1.coords t)) (hc1 : ¬cond1_1 (grid1.coords t)) (xs xs' : Vec Ideal S256x128 .f32) (y : S256x128.Idx) :
    sout1_B_1 V c t hc0 hc1 xs xs' y = (show EReal from xs' y) + laneL V c t (y 0) (y 1) := by
  unfold sout1_B_1 run1_B
  frame_out
  rw [lane_pay3, lane_pay1, read_pl, add_assoc]
  refine congrArg₂ (· + ·) rfl ((congrArg₂ (· + ·) ?_ ?_).trans (laneTerms_halves _ _ _).symm)
  · exact lanePair_at V c t _ _ 0 _ _ _ _ _ (Nat.zero_add _).symm (Nat.zero_add _).symm fun q j hj =>
      (lap_pay0 _ _ _ _ (ix2 (y 0) q)).trans (halfLap_at V c t 0 _ _ _ (y 0) q j hj)
  · exact lanePair_at V c t _ _ 256 _ _ _ _ _ rfl rfl fun q j hj =>
      (lap_pay1 _ _ _ _ (ix2 (y 0) q)).trans (halfLap_at V c t 256 _ _ _ (y 0) q j hj)

theorem out1_C_9_at (c : Dev nD) (t : Fin cfg1.N) (hc0 : ¬cond1_0 (grid1.coords t)) (hc1 : cond1_1 (grid1.coords t)) (xs xs' : Vec Ideal S256x128 .f32) (y : S256x512.Idx) :
    out1_C_9 V c t hc0 hc1 xs xs' y = pointValue V c t (y 0) (y 1) := by
  unfold out1_C_9 run1_C
  frame_out
  canon_tiles x h
  all_goals rw [show (y 0 : Fin 256) = x 0 from Fin.ext h0]
  · exact (value_pay1 _ _ _ _ x).trans (halfValue_at V c t 256 _ _ _ (x 0) (x 1) (y 1) h1)
  · exact (value_pay0 _ _ _ _ x).trans (halfValue_at V c t 0 _ _ _ (x 0) (x 1) (y 1) (h1.trans (Nat.zero_add _).symm))
theorem out1_C_10_at (c : Dev nD) (t : Fin cfg1.N) (hc0 : ¬cond1_0 (grid1.coords t)) (hc1 : cond1_1 (grid1.coords t)) (xs xs' : Vec Ideal S256x128 .f32) (y : S256x512.Idx) :
    out1_C_10 V c t hc0 hc1 xs xs' y = pointLap V c t (y 0) (y 1) := by
  unfold out1_C_10 run1_C
  frame_out
  canon_tiles x h
  all_goals rw [show (y 0 : Fin 256) = x 0 from Fin.ext h0]
  · exact (lap_pay1 _ _ _ _ x).trans (halfLap_at V c t 256 _ _ _ (x 0) (x 1) (y 1) h1)
  · exact (lap_pay0 _ _ _ _ x).trans (halfLap_at V c t 0 _ _ _ (x 0) (x 1) (y 1) (h1.trans (Nat.zero_add _).symm))
theorem sout1_C_0_at (c : Dev nD) (t : Fin cfg1.N) (hc0 : ¬cond1_0 (grid1.coords t)) (hc1 : cond1_1 (grid1.coords t)) (xs xs' : Vec Ideal S256x128 .f32) (y : S256x128.Idx) :
    sout1_C_0 V c t hc0 hc1 xs xs' y = (show EReal from xs y) + laneU V c t (y 0) (y 1) := by
  unfold sout1_C_0 run1_C
  frame_out
  rw [lane_pay2, lane_pay0, read_pu, add_assoc]
  refine congrArg₂ (· + ·) rfl ((congrArg₂ (· + ·) ?_ ?_).trans (laneTerms_halves _ _ _).symm)
  · exact lanePair_at V c t _ _ 0 _ _ _ _ _ (Nat.zero_add _).symm (Nat.zero_add _).symm fun q j hj =>
      (value_pay0 _ _ _ _ (ix2 (y 0) q)).trans (halfValue_at V c t 0 _ _ _ (y 0) q j hj)
  · exact lanePair_at V c t _ _ 256 _ _ _ _ _ rfl rfl fun q j hj =>
      (value_pay1 _ _ _ _ (ix2 (y 0) q)).trans (halfValue_at V c t 256 _ _ _ (y 0) q j hj)
theorem sout1_C_1_at (c : Dev nD) (t : Fin cfg1.N) (hc0 : ¬cond1_0 (grid1.coords t)) (hc1 : cond1_1 (grid1.coords t)) (xs xs' : Vec Ideal S256x128 .f32) (y : S256x128.Idx) :
    sout1_C_1 V c t hc0 hc1 xs xs' y = (show EReal from xs' y) + laneL V c t (y 0) (y 1) := by
  unfold sout1_C_1 run1_C
  frame_out
  rw [lane_pay3, lane_pay1, read_pl, add_assoc]
  refine congrArg₂ (· + ·) rfl ((congrArg₂ (· + ·) ?_ ?_).trans (laneTerms_halves _ _ _).symm)
  · exact lanePair_at V c t _ _ 0 _ _ _ _ _ (Nat.zero_add _).symm (Nat.zero_add _).symm fun q j hj =>
      (lap_pay0 _ _ _ _ (ix2 (y 0) q)).trans (halfLap_at V c t 0 _ _ _ (y 0) q j hj)
  · exact lanePair_at V c t _ _ 256 _ _ _ _ _ rfl rfl fun q j hj =>
      (lap_pay1 _ _ _ _ (ix2 (y 0) q)).trans (halfLap_at V c t 256 _ _ _ (y 0) q j hj)

/-- The residual the last point stores, from the lane sums it leaves. -/
theorem out1_C_7_at (c : Dev nD) (t : Fin cfg1.N) (hc0 : ¬cond1_0 (grid1.coords t)) (hc1 : cond1_1 (grid1.coords t)) (xs xs' : Vec Ideal S256x128 .f32) (y : S256x128.Idx) :
    out1_C_7 V c t hc0 hc1 xs xs' y
      = (∑ l : Fin 128, (show EReal from sout1_C_1 V c t hc0 hc1 xs xs' (ix2 (y 0) l))) - (show EReal from iblk1 V c 5 t (ix2 (y 0) 0)) := by
  unfold out1_C_7 sout1_C_1 run1_C
  frame_out
  exact res_pay _ y _

/-- The network's value the last point stores, from the lane sums it leaves. -/
theorem out1_C_8_at (c : Dev nD) (t : Fin cfg1.N) (hc0 : ¬cond1_0 (grid1.coords t)) (hc1 : cond1_1 (grid1.coords t)) (xs xs' : Vec Ideal S256x128 .f32) (y : S256x128.Idx) :
    out1_C_8 V c t hc0 hc1 xs xs' y
      = (∑ l : Fin 128, (show EReal from sout1_C_0 V c t hc0 hc1 xs xs' (ix2 (y 0) l))) + (show EReal from iblk1 V c 6 t (ix2 0 0)) := by
  unfold out1_C_8 sout1_C_0 run1_C
  frame_out
  refine (u_pay _ y _).trans (congrArg₂ (· + ·) rfl ?_)
  exact ld_at (Val := Elt Ideal) (iblk1 V c 6 t) 0 0 _ _ (ix2 0 0) rfl rfl

end Cert.KernelIdeal.Whole
end
-- ==== Proof.KernelIdeal.Layer2Value.lean ====
/- What the second layer's four arrays hold after its last grid point: the activation and the Laplacian block by block,
   and the network's value and residual as sums over all 16384 neurons. -/
module
public import proofs.«01_k».proof.Proof.KernelIdeal.Layer2Block
@[expose] public section
set_option maxRecDepth 16384
noncomputable section
namespace Cert.KernelIdeal.Whole
open Idealize.ShloMosaic Idealize.ShloMosaic.TcCoe Idealize.SL.Sem
open Idealize.ShloMosaic.Pipeline (Dat)
open Cert.KernelIdeal Cert.KernelIdeal.Gen Cert.Network

variable (V : (c : Dev nD) → (b : Ref sig .tc) → Buf (Elt Ideal) ((c : Thread nD τ).loc b))

/-! ## What each point leaves -/

theorem left_value (c : Dev nD) (t : Fin cfg1.N) (y : S256x512.Idx) : (outsAt1 V c t.val t.isLt).2.2.1 y = pointValue V c t (y 0) (y 1) := by
  by_cases h0 : t.val % 32 = 0
  · rw [outsAt1_A V c t h0 (by omega)]
    dsimp only
    exact out1_A_9_at V c _ _ _ y
  · by_cases h1 : t.val % 32 = 31
    · rw [outsAt1_C V c t h0 h1]
      dsimp only
      exact out1_C_9_at V c _ _ _ _ _ y
    · rw [outsAt1_B V c t h0 h1]
      dsimp only
      exact out1_B_9_at V c _ _ _ _ _ y

theorem left_lap (c : Dev nD) (t : Fin cfg1.N) (y : S256x512.Idx) : (outsAt1 V c t.val t.isLt).2.2.2.1 y = pointLap V c t (y 0) (y 1) := by
  by_cases h0 : t.val % 32 = 0
  · rw [outsAt1_A V c t h0 (by omega)]
    dsimp only
    exact out1_A_10_at V c _ _ _ y
  · by_cases h1 : t.val % 32 = 31
    · rw [outsAt1_C V c t h0 h1]
      dsimp only
      exact out1_C_10_at V c _ _ _ _ _ y
    · rw [outsAt1_B V c t h0 h1]
      dsimp only
      exact out1_B_10_at V c _ _ _ _ _ y

theorem pu_first (c : Dev nD) (t : Fin cfg1.N) (h0 : t.val % 32 = 0) (y : S256x128.Idx) : (outsAt1 V c t.val t.isLt).2.2.2.2.1 y = laneU V c t (y 0) (y 1) := by
  rw [outsAt1_A V c t h0 (by omega)]
  dsimp only
  exact (sout1_A_0_at V c _ _ _ y).trans (zero_add _)

theorem pl_first (c : Dev nD) (t : Fin cfg1.N) (h0 : t.val % 32 = 0) (y : S256x128.Idx) : (outsAt1 V c t.val t.isLt).2.2.2.2.2 y = laneL V c t (y 0) (y 1) := by
  rw [outsAt1_A V c t h0 (by omega)]
  dsimp only
  exact (sout1_A_1_at V c _ _ _ y).trans (zero_add _)

theorem pu_next (c : Dev nD) (t : Fin cfg1.N) (h0 : ¬t.val % 32 = 0) (y : S256x128.Idx) :
    (outsAt1 V c t.val t.isLt).2.2.2.2.1 y
      = (show EReal from (outsAt1 V c (t.val - 1) (Nat.lt_of_le_of_lt (Nat.sub_le _ _) t.isLt)).2.2.2.2.1 y) + laneU V c t (y 0) (y 1) := by
  by_cases h1 : t.val % 32 = 31
  · rw [outsAt1_C V c t h0 h1]
    dsimp only
    exact sout1_C_0_at V c _ _ _ _ _ y
  · rw [outsAt1_B V c t h0 h1]
    dsimp only
    exact sout1_B_0_at V c _ _ _ _ _ y

theorem pl_next (c : Dev nD) (t : Fin cfg1.N) (h0 : ¬t.val % 32 = 0) (y : S256x128.Idx) :
    (outsAt1 V c t.val t.isLt).2.2.2.2.2 y
      = (show EReal from (outsAt1 V c (t.val - 1) (Nat.lt_of_le_of_lt (Nat.sub_le _ _) t.isLt)).2.2.2.2.2 y) + laneL V c t (y 0) (y 1) := by
  by_cases h1 : t.val % 32 = 31
  · rw [outsAt1_C V c t h0 h1]
    dsimp only
    exact sout1_C_1_at V c _ _ _ _ _ y
  · rw [outsAt1_B V c t h0 h1]
    dsimp only
    exact sout1_B_1_at V c _ _ _ _ _ y

/-- After point `n` a lane of the first sum holds what the points up to `n` added. -/
theorem pu_sum (c : Dev nD) (y : S256x128.Idx) : ∀ (n : ℕ) (h : n < cfg1.N),
    (show EReal from (outsAt1 V c n h).2.2.2.2.1 y) = ∑ s : Fin (n + 1), laneU V c ⟨s.val, lt_of_lt_of_le s.isLt h⟩ (y 0) (y 1)
  | 0, h => (pu_first V c ⟨0, h⟩ (Nat.zero_mod _) y).trans (Fin.sum_univ_one fun s : Fin 1 => laneU V c ⟨s.val, lt_of_lt_of_le s.isLt h⟩ (y 0) (y 1)).symm
  | n + 1, h => by
    have hN : n + 1 < 32 := lt_of_lt_of_eq h N_1
    have e := pu_next V c ⟨n + 1, h⟩ (by dsimp only; omega) y
    simp only [Nat.add_sub_cancel] at e
    rw [Fin.sum_univ_castSucc]
    exact e.trans (congrArg (· + laneU V c ⟨n + 1, h⟩ (y 0) (y 1)) (pu_sum c y n (Nat.lt_of_succ_lt h)))

/-- After point `n` a lane of the second sum holds what the points up to `n` added. -/
theorem pl_sum (c : Dev nD) (y : S256x128.Idx) : ∀ (n : ℕ) (h : n < cfg1.N),
    (show EReal from (outsAt1 V c n h).2.2.2.2.2 y) = ∑ s : Fin (n + 1), laneL V c ⟨s.val, lt_of_lt_of_le s.isLt h⟩ (y 0) (y 1)
  | 0, h => (pl_first V c ⟨0, h⟩ (Nat.zero_mod _) y).trans (Fin.sum_univ_one fun s : Fin 1 => laneL V c ⟨s.val, lt_of_lt_of_le s.isLt h⟩ (y 0) (y 1)).symm
  | n + 1, h => by
    have hN : n + 1 < 32 := lt_of_lt_of_eq h N_1
    have e := pl_next V c ⟨n + 1, h⟩ (by dsimp only; omega) y
    simp only [Nat.add_sub_cancel] at e
    rw [Fin.sum_univ_castSucc]
    exact e.trans (congrArg (· + laneL V c ⟨n + 1, h⟩ (y 0) (y 1)) (pl_sum c y n (Nat.lt_of_succ_lt h)))

/-! ## The blocks a point holds, as parts of the arrays -/

theorem idx1 : ∀ t : Fin cfg1.N, win1_0.index t = ![0, 0] ∧ win1_1.index t = ![0, t.val] ∧ win1_2.index t = ![0, t.val]
    ∧ win1_3.index t = ![0, t.val] ∧ win1_4.index t = ![0, t.val] ∧ win1_5.index t = ![0, 0] ∧ win1_6.index t = ![0, 0] := (by decide +kernel : ∀ t : Fin grid1.N, _)

section
variable (c : Dev nD) (t : Fin cfg1.N)
theorem blk1_0 (r : Fin 1280) (k : Fin 2560) : iblk1 V c 0 t (ix2 r k) = V c main_v3 (ix2 r k) := by
  blk_ext [iblk1, idx1 t]
theorem blk1_1 (k : Fin 2560) (j : Fin 512) (h : t.val * 512 + j.val < 16384) : iblk1 V c 1 t (ix2 k j) = V c main_arg7 (ix2 k ⟨t.val * 512 + j.val, h⟩) := by
  blk_ext [iblk1, idx1 t]
theorem blk1_2 (g : Fin 80) (j : Fin 512) (h : t.val * 512 + j.val < 16384) : iblk1 V c 2 t (ix2 g j) = V c main_arg8 (ix2 g ⟨t.val * 512 + j.val, h⟩) := by
  blk_ext [iblk1, idx1 t]
theorem blk1_3 (j : Fin 512) (h : t.val * 512 + j.val < 16384) : iblk1 V c 3 t (ix2 0 j) = V c main_v4 (ix2 0 ⟨t.val * 512 + j.val, h⟩) := by
  blk_ext [iblk1, idx1 t]
theorem blk1_4 (j : Fin 512) (h : t.val * 512 + j.val < 16384) : iblk1 V c 4 t (ix2 0 j) = V c main_v5 (ix2 0 ⟨t.val * 512 + j.val, h⟩) := by
  blk_ext [iblk1, idx1 t]
theorem blk1_5 (p : Fin 256) : iblk1 V c 5 t (ix2 p 0) = V c main_v6 (ix2 p 0) := by
  blk_ext [iblk1, idx1 t]
theorem blk1_6 : iblk1 V c 6 t (ix2 0 0) = V c main_v7 (ix2 0 0) := by
  blk_ext [iblk1, idx1 t]
end

/-! ## The points together -/

/-- The second contraction, from the arrays. -/
def product2 (c : Dev nD) : Fin 1280 → Fin 16384 → EReal :=
  contracted (n := 2560) (g := 80) rfl (fun r k => V c main_v3 (ix2 r k)) (fun k j => V c main_arg7 (ix2 k j)) (fun g j => V c main_arg8 (ix2 g j))
/-- The last hidden activation, from the arrays. -/
def value2 (c : Dev nD) : Fin 256 → Fin 16384 → EReal := lastValue (product2 V c) (fun j => V c main_v4 (ix2 0 j))
/-- Its Laplacian. -/
def lap2 (c : Dev nD) : Fin 256 → Fin 16384 → EReal := lastLap (product2 V c) (fun j => V c main_v4 (ix2 0 j))

theorem pointDot_eq (c : Dev nD) (t : Fin cfg1.N) (r : Fin 1280) (j : Fin 512) (h : t.val * 512 + j.val < 16384) :
    pointDot V c t r j = product2 V c r ⟨t.val * 512 + j.val, h⟩ := by
  unfold pointDot product2 contracted
  exact Finset.sum_congr rfl fun k _ => congrArg₂ (· * ·) (blk1_0 V c t r k) (congrArg₂ (· * ·) (blk1_1 V c t k j h) (blk1_2 V c t _ j h))

theorem pointValue_eq (c : Dev nD) (t : Fin cfg1.N) (p : Fin 256) (j : Fin 512) (h : t.val * 512 + j.val < 16384) :
    pointValue V c t p j = value2 V c p ⟨t.val * 512 + j.val, h⟩ :=
  lastValue_congr (fun r => pointDot_eq V c t r j h) (blk1_3 V c t j h)

theorem pointLap_eq (c : Dev nD) (t : Fin cfg1.N) (p : Fin 256) (j : Fin 512) (h : t.val * 512 + j.val < 16384) :
    pointLap V c t p j = lap2 V c p ⟨t.val * 512 + j.val, h⟩ :=
  lastLap_congr (fun r => pointDot_eq V c t r j h) (blk1_3 V c t j h)

/-- The weighted sum of the last activations. -/
def sumU (c : Dev nD) (p : Fin 256) : EReal := ∑ j : Fin 16384, value2 V c p j * (show EReal from V c main_v5 (ix2 0 j))
/-- The weighted sum of their Laplacians. -/
def sumL (c : Dev nD) (p : Fin 256) : EReal := ∑ j : Fin 16384, lap2 V c p j * (show EReal from V c main_v5 (ix2 0 j))

theorem lanesU_sum (c : Dev nD) (p : Fin 256) (hn : ∀ s : Fin 32, s.val < cfg1.N) :
    (∑ l : Fin 128, ∑ s : Fin 32, laneU V c ⟨s.val, hn s⟩ p l) = sumU V c p := by
  unfold laneU laneTerms
  exact lanes_sum (fun j => value2 V c p j * (show EReal from V c main_v5 (ix2 0 j))) _ fun s q l hl =>
    congrArg₂ (· * ·) (pointValue_eq V c ⟨s.val, hn s⟩ p _ hl) (blk1_4 V c ⟨s.val, hn s⟩ _ hl)

theorem lanesL_sum (c : Dev nD) (p : Fin 256) (hn : ∀ s : Fin 32, s.val < cfg1.N) :
    (∑ l : Fin 128, ∑ s : Fin 32, laneL V c ⟨s.val, hn s⟩ p l) = sumL V c p := by
  unfold laneL laneTerms
  exact lanes_sum (fun j => lap2 V c p j * (show EReal from V c main_v5 (ix2 0 j))) _ fun s q l hl =>
    congrArg₂ (· * ·) (pointLap_eq V c ⟨s.val, hn s⟩ p _ hl) (blk1_4 V c ⟨s.val, hn s⟩ _ hl)

theorem pu_last (c : Dev nD) (t : Fin cfg1.N) (ht : t.val = 31) (p : Fin 256) :
    (∑ l : Fin 128, (show EReal from (outsAt1 V c t.val t.isLt).2.2.2.2.1 (ix2 p l))) = sumU V c p := by
  refine (Finset.sum_congr rfl fun l _ => pu_sum V c (ix2 p l) t.val t.isLt).trans ?_
  obtain ⟨n, hn⟩ := t
  obtain rfl : n = 31 := ht
  exact lanesU_sum V c p _

theorem pl_last (c : Dev nD) (t : Fin cfg1.N) (ht : t.val = 31) (p : Fin 256) :
    (∑ l : Fin 128, (show EReal from (outsAt1 V c t.val t.isLt).2.2.2.2.2 (ix2 p l))) = sumL V c p := by
  refine (Finset.sum_congr rfl fun l _ => pl_sum V c (ix2 p l) t.val t.isLt).trans ?_
  obtain ⟨n, hn⟩ := t
  obtain rfl : n = 31 := ht
  exact lanesL_sum V c p _

/-! ## The arrays -/

/-- The residual's array: every lane holds the Laplacian of the network less the source. -/
theorem res_array (c : Dev nD) :
    (dat1 V c).arrAt 7 cfg1.N = fun y : S256x128.Idx => sumL V c (y 0) - (show EReal from V c main_v6 (ix2 (y 0) 0)) := by
  obtain ⟨t, ht⟩ : ∃ t : Fin cfg1.N, t.val = 31 := ⟨⟨31, lt_of_lt_of_eq (by decide) N_1.symm⟩, rfl⟩
  refine (dat1 V c).arrAt_eq_of_after_last 7 t ((by decide +kernel : ∀ t : Fin grid1.N, t.val = 31 → (cfg1.win 7).WholeAt t) t ht) _ fun y => ?_
  blk_simp
  rw [after1_7]
  have hA := pl_last V c t ht (y 0)
  have e := outsAt1_C V c t (by omega) (by omega)
  rw [e] at hA ⊢
  dsimp only at hA ⊢
  refine (out1_C_7_at V c _ _ _ _ _ y).trans ?_
  exact congrArg₂ (fun a b : EReal => a - b) hA (blk1_5 V c _ (y 0))

/-- The value's array: every lane holds the network's value. -/
theorem u_array (c : Dev nD) :
    (dat1 V c).arrAt 8 cfg1.N = fun y : S256x128.Idx => sumU V c (y 0) + (show EReal from V c main_v7 (ix2 0 0)) := by
  obtain ⟨t, ht⟩ : ∃ t : Fin cfg1.N, t.val = 31 := ⟨⟨31, lt_of_lt_of_eq (by decide) N_1.symm⟩, rfl⟩
  refine (dat1 V c).arrAt_eq_of_after_last 8 t ((by decide +kernel : ∀ t : Fin grid1.N, t.val = 31 → (cfg1.win 8).WholeAt t) t ht) _ fun y => ?_
  blk_simp
  rw [after1_8]
  have hA := pu_last V c t ht (y 0)
  have e := outsAt1_C V c t (by omega) (by omega)
  rw [e] at hA ⊢
  dsimp only at hA ⊢
  refine (out1_C_8_at V c _ _ _ _ _ y).trans ?_
  exact congrArg₂ (fun a b : EReal => a + b) hA (blk1_6 V c _)

theorem idx_out : ∀ t : Fin cfg1.N, win1_9.index t = ![0, t.val] ∧ win1_10.index t = ![0, t.val] := (by decide +kernel : ∀ t : Fin grid1.N, _)

/-- The activation's array. -/
theorem value_array (c : Dev nD) : (dat1 V c).arrAt 9 cfg1.N = fun y : S256x16384.Idx => value2 V c (y 0) (y 1) := by
  refine (dat1 V c).arrAt_eq_of_covers 9 _ (by decide +kernel) fun t hf y => ?_
  blk_simp
  rw [after1_9]
  have hN : t.val < 32 := lt_of_lt_of_eq t.isLt N_1
  have hy : (y 1 : ℕ) < 512 := (y 1).isLt
  refine (left_value V c t y).trans ((pointValue_eq V c t (y 0) (y 1) (by omega)).trans ?_)
  refine congrArg₂ (value2 V c) (Fin.ext ?_) (Fin.ext ?_)
  · blk_simp [idx_out t]
  · blk_simp [idx_out t]

/-- The Laplacian's array. -/
theorem lap_array (c : Dev nD) : (dat1 V c).arrAt 10 cfg1.N = fun y : S256x16384.Idx => lap2 V c (y 0) (y 1) := by
  refine (dat1 V c).arrAt_eq_of_covers 10 _ (by decide +kernel) fun t hf y => ?_
  blk_simp
  rw [after1_10]
  have hN : t.val < 32 := lt_of_lt_of_eq t.isLt N_1
  have hy : (y 1 : ℕ) < 512 := (y 1).isLt
  refine (left_lap V c t y).trans ((pointLap_eq V c t (y 0) (y 1) (by omega)).trans ?_)
  refine congrArg₂ (lap2 V c) (Fin.ext ?_) (Fin.ext ?_)
  · blk_simp [idx_out t]
  · blk_simp [idx_out t]

end Cert.KernelIdeal.Whole
end
-- ==== Proof.KernelIdeal.Results.lean ====
/- The kernel's four results, read off the buffers at the return and written over the argument arrays. -/
module
public import proofs.«01_k».proof.Proof.KernelIdeal.Run
public import proofs.«01_k».proof.Proof.KernelIdeal.Layer1Value
public import proofs.«01_k».proof.Proof.KernelIdeal.Layer2Value
@[expose] public section
set_option maxRecDepth 16384
noncomputable section
namespace Cert.KernelIdeal.Whole
open Idealize.ShloMosaic Idealize.ShloMosaic.TcCoe Idealize.SL.Sem
open Cert.KernelIdeal Cert.KernelIdeal.Gen Cert.Network

variable (m : (ℓ : Loc nD τ sig) → Buf (Elt Ideal) ℓ) (ρ : Dev nD → PrngReg) (c : Dev nD)

/-! ## The arrays the two layers enter with -/

theorem V1_v0 : V1 m ρ c main_v0 = shapeCast S256x3 (m ((c : Thread nD τ).loc main_arg0)) shapeCasts_S2x128x3_S256x3 := by
  unfold_abbrev_sides
  after_results
  all_goals rfl
theorem V1_v1 : V1 m ρ c main_v1 = shapeCast S1x16384 (m ((c : Thread nD τ).loc main_arg3)) shapeCasts_S16384_S1x16384 := by
  unfold_abbrev_sides
  after_results
  all_goals rfl
theorem V1_v2 : V1 m ρ c main_v2 = shapeCast S1x2560 (m ((c : Thread nD τ).loc main_arg6)) shapeCasts_S2560_S1x2560 := by
  unfold_abbrev_sides
  after_results
  all_goals rfl

theorem V3_v4 : V3 m ρ c main_v4 = shapeCast S1x16384 (m ((c : Thread nD τ).loc main_arg9)) shapeCasts_S16384_S1x16384 := by
  rw [← W2_args m ρ c main_arg9 (by decide)]
  unfold_abbrev_sides
  after_results
  all_goals rfl
theorem V3_v5 : V3 m ρ c main_v5 = shapeCast S1x16384 (m ((c : Thread nD τ).loc main_arg10)) shapeCasts_S16384_S1x16384 := by
  rw [← W2_args m ρ c main_arg10 (by decide)]
  unfold_abbrev_sides
  after_results
  all_goals rfl
theorem V3_v6 : V3 m ρ c main_v6 = shapeCast S256x1 (m ((c : Thread nD τ).loc main_arg1)) shapeCasts_S2x128_S256x1 := by
  rw [← W2_args m ρ c main_arg1 (by decide)]
  unfold_abbrev_sides
  after_results
  all_goals rfl
theorem V3_v7 : V3 m ρ c main_v7 = shapeCast S1x1 (m ((c : Thread nD τ).loc main_arg11)) shapeCasts_S1_S1x1 := by
  rw [← W2_args m ρ c main_arg11 (by decide)]
  unfold_abbrev_sides
  after_results
  all_goals rfl
theorem V3_v3 : V3 m ρ c main_v3 = fun y : S1280x2560.Idx => layer1 (V1 m ρ) c (y 0) (y 1) :=
  (W3_of m ρ c main_v3 (by decide)).trans ((W2_arr m ρ c 6).trans (layer1_array (V1 m ρ) c))

/-! ## The results -/

theorem W5_v16 : W5 m ρ c main_v16 = shapeCast S2x128x16384 (fun y : S256x16384.Idx => value2 (V3 m ρ) c (y 0) (y 1)) shapeCasts_S256x16384_S2x128x16384 := by
  rw [← value_array (V3 m ρ) c, ← W4_arr m ρ c 9]
  unfold_abbrev_sides
  after_results
  all_goals rfl
theorem W5_v17 : W5 m ρ c main_v17 = shapeCast S2x128x16384 (fun y : S256x16384.Idx => lap2 (V3 m ρ) c (y 0) (y 1)) shapeCasts_S256x16384_S2x128x16384 := by
  rw [← lap_array (V3 m ρ) c, ← W4_arr m ρ c 10]
  unfold_abbrev_sides
  after_results
  all_goals rfl
/-- The columns the residual and the value of the network leave as: the kernel writes each number along the 128 lanes
of its row, and the host keeps lane 0. -/
def lane0 (x : FVec Ideal S256x128 .f32) : FVec Ideal S2x128 .f32 :=
  shapeCast S2x128 (shapeCast S256 (extractStridedSlice S256x1 ![0, 0] x (by decide)) (by decide)) (by decide)

/-- Where every lane of a row holds the same number, lane 0 is the column of those numbers, laid out as `[2, 128]`. -/
theorem lane0_rows (R : Fin 256 → EReal) :
    lane0 (fun y : S256x128.Idx => R (y 0)) = shapeCast S2x128 (fun y : S256x1.Idx => R (y 0)) (by decide) := by
  funext i
  have e : ∀ p : Fin 256, (S256x1.rowMajor (ix2 p 0)).val = (p : ℕ) := fun p => by
    rw [Shape.rowMajor_val_two]; show (p : ℕ) * 1 + 0 = p; omega
  have e' : ∀ p : Fin 256, (S256.rowMajor (ix1 p)).val = (p : ℕ) := fun p => Shape.rowMajor_val_one _
  have hp : (S2x128.rowMajor i).val < 256 := (S2x128.rowMajor i).isLt
  refine (shapeCast_apply _ _ i (ix1 ⟨(S2x128.rowMajor i).val, hp⟩) (e' _)).trans ?_
  refine (shapeCast_apply _ _ _ (ix2 ⟨(S2x128.rowMajor i).val, hp⟩ 0) ((e _).trans (e' _).symm)).trans ?_
  refine (extractStridedSlice_apply _ _ _ _ (ix2 ⟨(S2x128.rowMajor i).val, hp⟩ 0) ?_).trans ?_
  · intro a; fin_cases a <;> exact (Nat.zero_add _).symm
  · exact (shapeCast_apply (t := S2x128) (fun y : S256x1.Idx => R (y 0)) (by decide) i (ix2 ⟨(S2x128.rowMajor i).val, hp⟩ 0) (e _)).symm

theorem W5_v11 : W5 m ρ c main_v11 = shapeCast S2x128
    (fun y : S256x1.Idx => (sumL (V3 m ρ) c (y 0) - (show EReal from V3 m ρ c main_v6 (ix2 (y 0) 0)) : EReal)) (by decide) := by
  refine Eq.trans ?_ (lane0_rows fun p => sumL (V3 m ρ) c p - (show EReal from V3 m ρ c main_v6 (ix2 p 0)))
  refine Eq.trans (b := lane0 ((dat1 (V3 m ρ) c).arrAt 7 cfg1.N)) ?_ (congrArg lane0 (res_array (V3 m ρ) c))
  rw [← W4_arr m ρ c 7]
  unfold_abbrev_sides
  after_results
  all_goals rfl
theorem W5_v15 : W5 m ρ c main_v15 = shapeCast S2x128
    (fun y : S256x1.Idx => (sumU (V3 m ρ) c (y 0) + (show EReal from V3 m ρ c main_v7 (ix2 0 0)) : EReal)) (by decide) := by
  refine Eq.trans ?_ (lane0_rows fun p => sumU (V3 m ρ) c p + (show EReal from V3 m ρ c main_v7 (ix2 0 0)))
  refine Eq.trans (b := lane0 ((dat1 (V3 m ρ) c).arrAt 8 cfg1.N)) ?_ (congrArg lane0 (u_array (V3 m ρ) c))
  rw [← W4_arr m ρ c 8]
  unfold_abbrev_sides
  after_results
  all_goals rfl
end Cert.KernelIdeal.Whole
end
-- ==== Proof.ReferenceIdeal.Block.lean ====
/- What the reference's one body computes from its arrays: the streams of the three layers, and the four results. -/
module
public import proofs.«01_k».proof.Proof.Gen.ReferenceIdeal.Frame
public import proofs.«01_k».proof.Proof.Network
public import proofs.«01_k».proof.Proof.Blocks
@[expose] public section
set_option maxRecDepth 16384
noncomputable section
namespace Cert.ReferenceIdeal.Whole
open Idealize.ShloMosaic Idealize.ShloMosaic.TcCoe Idealize.SL.Sem
open Cert.ReferenceIdeal Cert.ReferenceIdeal.Gen Cert.Network

variable (x : Vec Ideal S256x3 .f32) (w0 : Vec Ideal S3x16384 .f32) (b0 : Vec Ideal S1x16384 .f32)
  (w1 : Vec Ideal S16384x2560 .fp8e4m3) (s1 : Vec Ideal S512x2560 .f32) (b1 : Vec Ideal S1x2560 .f32)
  (w2 : Vec Ideal S2560x16384 .fp8e4m3) (s2 : Vec Ideal S80x16384 .f32) (b2 wo : Vec Ideal S1x16384 .f32) (bo : Vec Ideal S1x1 .f32) (f : Vec Ideal S256x1 .f32)

/-! ## The first layer -/

/-- The first layer's five streams. -/
def streams : Fin 1280 → Fin 16384 → EReal := posted (fun p d => x (ix2 p d)) (fun d k => w0 (ix2 d k)) (fun k => b0 (ix2 0 k))

theorem tanh_pay (y : S256x16384.Idx) :
    k0_pay2 w0 x b0 y = Ideal.tanh (preact (fun p d => x (ix2 p d)) (fun d k => w0 (ix2 d k)) (fun k => b0 (ix2 0 k)) (y 0) (y 1)) := by
  unfold preact; pointwise [k0_pay2]; simp only [Fin.sum_univ_three]

theorem slope_pay (y : S256x16384.Idx) :
    k0_pay3 w0 x b0 y = tanhSlope (preact (fun p d => x (ix2 p d)) (fun d k => w0 (ix2 d k)) (fun k => b0 (ix2 0 k)) (y 0) (y 1)) := by
  unfold tanhSlope; pointwise [k0_pay3]; simp only [tanh_pay]

theorem first_value (p : Fin 256) (k : Fin 16384) : k0_pay2 w0 x b0 (ix2 p k) = streams x w0 b0 (streamRow 0 p) k :=
  (tanh_pay x w0 b0 (ix2 p k)).trans (posted_value _ _ _ p k rfl).symm
theorem first_grad0 (p : Fin 256) (k : Fin 16384) : k0_pay4 w0 x b0 (ix2 p k) = streams x w0 b0 (streamRow 1 p) k := by
  refine Eq.trans ?_ (posted_grad0 _ _ _ p k rfl).symm
  pointwise [k0_pay4]; simp only [slope_pay]; rfl
theorem first_grad1 (p : Fin 256) (k : Fin 16384) : k0_pay5 w0 x b0 (ix2 p k) = streams x w0 b0 (streamRow 2 p) k := by
  refine Eq.trans ?_ (posted_grad1 _ _ _ p k rfl).symm
  pointwise [k0_pay5]; simp only [slope_pay]; rfl
theorem first_grad2 (p : Fin 256) (k : Fin 16384) : k0_pay6 w0 x b0 (ix2 p k) = streams x w0 b0 (streamRow 3 p) k := by
  refine Eq.trans ?_ (posted_grad2 _ _ _ p k rfl).symm
  pointwise [k0_pay6]; simp only [slope_pay]; rfl
theorem first_lap (p : Fin 256) (k : Fin 16384) : k0_pay7 w0 x b0 (ix2 p k) = streams x w0 b0 (streamRow 4 p) k := by
  refine Eq.trans ?_ (posted_lap _ _ _ p k rfl).symm
  unfold tanhBend
  pointwise [k0_pay7]; simp only [slope_pay, tanh_pay, Fin.sum_univ_three]; rfl

/-! ## The second layer -/

/-- The first contraction. -/
def product : Fin 1280 → Fin 2560 → EReal :=
  contracted (n := 16384) (g := 512) rfl (streams x w0 b0) (fun k j => w1 (ix2 k j)) (fun g j => s1 (ix2 g j))
/-- The second layer's five streams. -/
def layer : Fin 1280 → Fin 2560 → EReal := hidden (product x w0 b0 w1 s1) (fun j => b1 (ix2 0 j))

theorem codes1 (k : Fin 16384) (j : Fin 2560) : k0_pay9 w1 s1 (ix2 k j) = (show EReal from w1 (ix2 k j)) * (show EReal from s1 (ix2 ⟨k / 32, by omega⟩ j)) := by
  pointwise [k0_pay9]

/-- A stream of the first layer contracted with the second layer's codes. -/
theorem dot1 (v : FVec Ideal S256x16384 .f32) (d : Fin 5) (hv : ∀ p k, v (ix2 p k) = streams x w0 b0 (streamRow d p) k) (p : Fin 256) (j : Fin 2560) :
    (∑ k : Fin 16384, (show EReal from v (ix2 p k)) * (show EReal from k0_pay9 w1 s1 (ix2 k j))) = product x w0 b0 w1 s1 (streamRow d p) j := by
  unfold product contracted
  exact Finset.sum_congr rfl fun k _ => congrArg₂ (· * ·) (hv p k) (codes1 w1 s1 k j)

theorem prod_grad0 (p : Fin 256) (j : Fin 2560) : k0_pay10 (k0_pay4 w0 x b0) (k0_pay9 w1 s1) (ix2 p j) = product x w0 b0 w1 s1 (streamRow 1 p) j := by
  refine Eq.trans ?_ (dot1 x w0 b0 w1 s1 _ 1 (first_grad0 x w0 b0) p j)
  pointwise [k0_pay10]
theorem prod_grad1 (p : Fin 256) (j : Fin 2560) : k0_pay11 (k0_pay5 w0 x b0) (k0_pay9 w1 s1) (ix2 p j) = product x w0 b0 w1 s1 (streamRow 2 p) j := by
  refine Eq.trans ?_ (dot1 x w0 b0 w1 s1 _ 2 (first_grad1 x w0 b0) p j)
  pointwise [k0_pay11]
theorem prod_grad2 (p : Fin 256) (j : Fin 2560) : k0_pay12 (k0_pay6 w0 x b0) (k0_pay9 w1 s1) (ix2 p j) = product x w0 b0 w1 s1 (streamRow 3 p) j := by
  refine Eq.trans ?_ (dot1 x w0 b0 w1 s1 _ 3 (first_grad2 x w0 b0) p j)
  pointwise [k0_pay12]

theorem second_tanh (p : Fin 256) (j : Fin 2560) :
    k0_pay13 (k0_pay2 w0 x b0) (k0_pay8 b1) (k0_pay9 w1 s1) (ix2 p j) = Ideal.tanh (product x w0 b0 w1 s1 ⟨p, by omega⟩ j + (show EReal from b1 (ix2 0 j))) := by
  rw [← streamRow_zero, ← dot1 x w0 b0 w1 s1 _ 0 (first_value x w0 b0) p j]
  pointwise [k0_pay13, k0_pay8]
theorem second_slope (p : Fin 256) (j : Fin 2560) :
    k0_pay14 (k0_pay2 w0 x b0) (k0_pay8 b1) (k0_pay9 w1 s1) (ix2 p j) = tanhSlope (product x w0 b0 w1 s1 ⟨p, by omega⟩ j + (show EReal from b1 (ix2 0 j))) := by
  unfold tanhSlope
  rw [← second_tanh]
  pointwise [k0_pay14]

theorem second_value (p : Fin 256) (j : Fin 2560) :
    k0_pay17 (k0_pay2 w0 x b0) (k0_pay8 b1) (k0_pay9 w1 s1) (ix2 p j) = layer x w0 b0 w1 s1 b1 (streamRow 0 p) j := by
  refine Eq.trans ?_ (hidden_value _ _ p j rfl).symm
  rw [← second_tanh]
  pointwise [k0_pay17]
theorem second_grad0 (p : Fin 256) (j : Fin 2560) :
    k0_pay18 (k0_pay2 w0 x b0) (k0_pay4 w0 x b0) (k0_pay8 b1) (k0_pay9 w1 s1) (ix2 p j) = layer x w0 b0 w1 s1 b1 (streamRow 1 p) j := by
  refine Eq.trans ?_ (hidden_grad (d := 1) _ _ p j rfl (by decide) (by decide)).symm
  rw [← second_slope, ← prod_grad0]
  pointwise [k0_pay18]
theorem second_grad1 (p : Fin 256) (j : Fin 2560) :
    k0_pay19 (k0_pay2 w0 x b0) (k0_pay5 w0 x b0) (k0_pay8 b1) (k0_pay9 w1 s1) (ix2 p j) = layer x w0 b0 w1 s1 b1 (streamRow 2 p) j := by
  refine Eq.trans ?_ (hidden_grad (d := 2) _ _ p j rfl (by decide) (by decide)).symm
  rw [← second_slope, ← prod_grad1]
  pointwise [k0_pay19]
theorem second_grad2 (p : Fin 256) (j : Fin 2560) :
    k0_pay20 (k0_pay2 w0 x b0) (k0_pay6 w0 x b0) (k0_pay8 b1) (k0_pay9 w1 s1) (ix2 p j) = layer x w0 b0 w1 s1 b1 (streamRow 3 p) j := by
  refine Eq.trans ?_ (hidden_grad (d := 3) _ _ p j rfl (by decide) (by decide)).symm
  rw [← second_slope, ← prod_grad2]
  pointwise [k0_pay20]
theorem second_lap (p : Fin 256) (j : Fin 2560) :
    k0_pay21 (k0_pay2 w0 x b0) (k0_pay4 w0 x b0) (k0_pay5 w0 x b0) (k0_pay6 w0 x b0) (k0_pay7 w0 x b0) (k0_pay8 b1) (k0_pay9 w1 s1) (ix2 p j)
      = layer x w0 b0 w1 s1 b1 (streamRow 4 p) j := by
  refine Eq.trans ?_ (hidden_lap _ _ p j rfl).symm
  unfold tanhBend
  rw [← second_slope, ← second_tanh, ← prod_grad0, ← prod_grad1, ← prod_grad2, ← dot1 x w0 b0 w1 s1 _ 4 (first_lap x w0 b0) p j]
  pointwise [k0_pay21]

/-! ## The last layer -/

/-- The second contraction. -/
def productLast : Fin 1280 → Fin 16384 → EReal :=
  contracted (n := 2560) (g := 80) rfl (layer x w0 b0 w1 s1 b1) (fun k j => w2 (ix2 k j)) (fun g j => s2 (ix2 g j))
/-- The last hidden activation. -/
def valueLast : Fin 256 → Fin 16384 → EReal := lastValue (productLast x w0 b0 w1 s1 b1 w2 s2) (fun j => b2 (ix2 0 j))
/-- Its Laplacian. -/
def lapLast : Fin 256 → Fin 16384 → EReal := lastLap (productLast x w0 b0 w1 s1 b1 w2 s2) (fun j => b2 (ix2 0 j))

theorem codes2 (k : Fin 2560) (j : Fin 16384) : k0_pay16 w2 s2 (ix2 k j) = (show EReal from w2 (ix2 k j)) * (show EReal from s2 (ix2 ⟨k / 32, by omega⟩ j)) := by
  pointwise [k0_pay16]

/-- A stream of the second layer contracted with the last layer's codes. -/
theorem dot2 (v : FVec Ideal S256x2560 .bf16) (d : Fin 5) (hv : ∀ p k, v (ix2 p k) = layer x w0 b0 w1 s1 b1 (streamRow d p) k) (p : Fin 256) (j : Fin 16384) :
    (∑ k : Fin 2560, (show EReal from v (ix2 p k)) * (show EReal from k0_pay16 w2 s2 (ix2 k j))) = productLast x w0 b0 w1 s1 b1 w2 s2 (streamRow d p) j := by
  unfold productLast contracted
  exact Finset.sum_congr rfl fun k _ => congrArg₂ (· * ·) (hv p k) (codes2 w2 s2 k j)

/-- The second layer's value stream. -/
abbrev v2 := k0_pay17 (k0_pay2 w0 x b0) (k0_pay8 b1) (k0_pay9 w1 s1)
/-- Its first derivative's stream. -/
abbrev v2a := k0_pay18 (k0_pay2 w0 x b0) (k0_pay4 w0 x b0) (k0_pay8 b1) (k0_pay9 w1 s1)
/-- Its second derivative's stream. -/
abbrev v2b := k0_pay19 (k0_pay2 w0 x b0) (k0_pay5 w0 x b0) (k0_pay8 b1) (k0_pay9 w1 s1)
/-- Its third derivative's stream. -/
abbrev v2c := k0_pay20 (k0_pay2 w0 x b0) (k0_pay6 w0 x b0) (k0_pay8 b1) (k0_pay9 w1 s1)
/-- Its Laplacian's stream. -/
abbrev v2l := k0_pay21 (k0_pay2 w0 x b0) (k0_pay4 w0 x b0) (k0_pay5 w0 x b0) (k0_pay6 w0 x b0) (k0_pay7 w0 x b0) (k0_pay8 b1) (k0_pay9 w1 s1)

theorem third_value (p : Fin 256) (j : Fin 16384) :
    k0_pay22 (k0_pay15 b2) (k0_pay16 w2 s2) (v2 x w0 b0 w1 s1 b1) (constant S256x16384 .f32 0x00000000#32) (ix2 p j) = valueLast x w0 b0 w1 s1 b1 w2 s2 b2 p j := by
  unfold valueLast lastValue
  rw [← streamRow_zero, ← dot2 x w0 b0 w1 s1 b1 w2 s2 _ 0 (second_value x w0 b0 w1 s1 b1) p j]
  pointwise [k0_pay22, k0_pay15]

theorem third_lap (p : Fin 256) (j : Fin 16384) :
    k0_pay23 (k0_pay15 b2) (k0_pay16 w2 s2) (v2 x w0 b0 w1 s1 b1) (v2a x w0 b0 w1 s1 b1) (v2b x w0 b0 w1 s1 b1) (v2c x w0 b0 w1 s1 b1) (v2l x w0 b0 w1 s1 b1)
      (constant S256x16384 .f32 0x00000000#32) (ix2 p j) = lapLast x w0 b0 w1 s1 b1 w2 s2 b2 p j := by
  unfold lapLast lastLap tanhBend tanhSlope
  have e := third_value x w0 b0 w1 s1 b1 w2 s2 b2 p j
  unfold valueLast lastValue at e
  have r1 : (⟨256 + p, by omega⟩ : Fin 1280) = streamRow 1 p := rfl
  have r2 : (⟨512 + p, by omega⟩ : Fin 1280) = streamRow 2 p := rfl
  have r3 : (⟨768 + p, by omega⟩ : Fin 1280) = streamRow 3 p := rfl
  have r4 : (⟨1024 + p, by omega⟩ : Fin 1280) = streamRow 4 p := rfl
  rw [← e, r1, r2, r3, r4, ← dot2 x w0 b0 w1 s1 b1 w2 s2 _ 1 (second_grad0 x w0 b0 w1 s1 b1) p j, ← dot2 x w0 b0 w1 s1 b1 w2 s2 _ 2 (second_grad1 x w0 b0 w1 s1 b1) p j,
    ← dot2 x w0 b0 w1 s1 b1 w2 s2 _ 3 (second_grad2 x w0 b0 w1 s1 b1) p j, ← dot2 x w0 b0 w1 s1 b1 w2 s2 _ 4 (second_lap x w0 b0 w1 s1 b1) p j]
  pointwise [k0_pay23]

theorem third_u (p : Fin 256) :
    k0_pay24 (k0_pay1 wo) (k0_pay15 b2) (k0_pay16 w2 s2) (v2 x w0 b0 w1 s1 b1) (constant S256x16384 .f32 0x00000000#32) bo (ix2 p 0)
      = (∑ j : Fin 16384, valueLast x w0 b0 w1 s1 b1 w2 s2 b2 p j * (show EReal from wo (ix2 0 j))) + (show EReal from bo (ix2 0 0)) := by
  simp only [← third_value]
  pointwise [k0_pay24, k0_pay1]

theorem third_res (p : Fin 256) :
    k0_pay25 (k0_pay1 wo) (k0_pay15 b2) (k0_pay16 w2 s2) (v2 x w0 b0 w1 s1 b1) (v2a x w0 b0 w1 s1 b1) (v2b x w0 b0 w1 s1 b1) (v2c x w0 b0 w1 s1 b1) (v2l x w0 b0 w1 s1 b1)
      (constant S256x16384 .f32 0x00000000#32) f (ix2 p 0)
      = (∑ j : Fin 16384, lapLast x w0 b0 w1 s1 b1 w2 s2 b2 p j * (show EReal from wo (ix2 0 j))) - (show EReal from f (ix2 p 0)) := by
  simp only [← third_lap]
  pointwise [k0_pay25, k0_pay1]

end Cert.ReferenceIdeal.Whole
end
-- ==== Proof.ReferenceIdeal.Arrays.lean ====
/- What the reference's four arrays hold after its one grid point, from the arrays it enters with. -/
module
public import proofs.«01_k».proof.Proof.ReferenceIdeal.Block
@[expose] public section
set_option maxRecDepth 16384
noncomputable section
namespace Cert.ReferenceIdeal.Whole
open Idealize.ShloMosaic Idealize.ShloMosaic.TcCoe Idealize.SL.Sem
open Idealize.ShloMosaic.Pipeline (Dat)
open Cert.ReferenceIdeal Cert.ReferenceIdeal.Gen Cert.Network

section
variable (x0 : Vec Ideal S256x3 .f32) (x1 : Vec Ideal S256x1 .f32) (x2 : Vec Ideal S3x16384 .f32) (x3 : Vec Ideal S1x16384 .f32)
  (x4 : Vec Ideal S16384x2560 .fp8e4m3) (x5 : Vec Ideal S512x2560 .f32) (x6 : Vec Ideal S1x2560 .f32)
  (x7 : Vec Ideal S2560x16384 .fp8e4m3) (x8 : Vec Ideal S80x16384 .f32) (x9 x10 : Vec Ideal S1x16384 .f32) (x11 : Vec Ideal S1x1 .f32)

theorem out_value (y : S256x16384.Idx) : out0_14 x0 x1 x2 x3 x4 x5 x6 x7 x8 x9 x10 x11 y = valueLast x0 x2 x3 x4 x5 x6 x7 x8 x9 (y 0) (y 1) := by
  unfold_out out0_14
  frame_out
  refine Eq.trans ?_ (third_value x0 x2 x3 x4 x5 x6 x7 x8 x9 (y 0) (y 1))
  exact congrArg _ (eq_ix2 y)
theorem out_lap (y : S256x16384.Idx) : out0_15 x0 x1 x2 x3 x4 x5 x6 x7 x8 x9 x10 x11 y = lapLast x0 x2 x3 x4 x5 x6 x7 x8 x9 (y 0) (y 1) := by
  unfold_out out0_15
  frame_out
  refine Eq.trans ?_ (third_lap x0 x2 x3 x4 x5 x6 x7 x8 x9 (y 0) (y 1))
  exact congrArg _ (eq_ix2 y)
theorem out_res (p : Fin 256) : out0_12 x0 x1 x2 x3 x4 x5 x6 x7 x8 x9 x10 x11 (ix2 p 0)
    = (∑ j : Fin 16384, lapLast x0 x2 x3 x4 x5 x6 x7 x8 x9 p j * (show EReal from x10 (ix2 0 j))) - (show EReal from x1 (ix2 p 0)) := by
  unfold_out out0_12
  frame_out
  exact third_res x0 x2 x3 x4 x5 x6 x7 x8 x9 x10 x1 p
theorem out_u (p : Fin 256) : out0_13 x0 x1 x2 x3 x4 x5 x6 x7 x8 x9 x10 x11 (ix2 p 0)
    = (∑ j : Fin 16384, valueLast x0 x2 x3 x4 x5 x6 x7 x8 x9 p j * (show EReal from x10 (ix2 0 j))) + (show EReal from x11 (ix2 0 0)) := by
  unfold_out out0_13
  frame_out
  exact third_u x0 x2 x3 x4 x5 x6 x7 x8 x9 x10 x11 p
end

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0] ∧ win0_11.index t = ![0, 0] := (by decide +kernel : ∀ t : Fin grid0.N, _)

section
variable (c : Dev nD) (t : Fin cfg0.N)
theorem blk_0 : iblk m c 0 t = V m c main_v0 := funext fun y => by blk_ext [iblk, idx t]
theorem blk_1 : iblk m c 1 t = V m c main_v1 := funext fun y => by blk_ext [iblk, idx t]
theorem blk_2 : iblk m c 2 t = V m c main_arg2 := funext fun y => by blk_ext [iblk, idx t]
theorem blk_3 : iblk m c 3 t = V m c main_v2 := funext fun y => by blk_ext [iblk, idx t]
theorem blk_4 : iblk m c 4 t = V m c main_arg4 := funext fun y => by blk_ext [iblk, idx t]
theorem blk_5 : iblk m c 5 t = V m c main_arg5 := funext fun y => by blk_ext [iblk, idx t]
theorem blk_6 : iblk m c 6 t = V m c main_v3 := funext fun y => by blk_ext [iblk, idx t]
theorem blk_7 : iblk m c 7 t = V m c main_arg7 := funext fun y => by blk_ext [iblk, idx t]
theorem blk_8 : iblk m c 8 t = V m c main_arg8 := funext fun y => by blk_ext [iblk, idx t]
theorem blk_9 : iblk m c 9 t = V m c main_v4 := funext fun y => by blk_ext [iblk, idx t]
theorem blk_10 : iblk m c 10 t = V m c main_v5 := funext fun y => by blk_ext [iblk, idx t]
theorem blk_11 : iblk m c 11 t = V m c main_v6 := funext fun y => by blk_ext [iblk, idx t]
end

/-! ## The arrays after the run -/

/-- The last hidden activation, from the arrays the region enters with. -/
def value (c : Dev nD) : Fin 256 → Fin 16384 → EReal :=
  valueLast (V m c main_v0) (V m c main_arg2) (V m c main_v2) (V m c main_arg4) (V m c main_arg5) (V m c main_v3) (V m c main_arg7) (V m c main_arg8) (V m c main_v4)
/-- Its Laplacian. -/
def lap (c : Dev nD) : Fin 256 → Fin 16384 → EReal :=
  lapLast (V m c main_v0) (V m c main_arg2) (V m c main_v2) (V m c main_arg4) (V m c main_arg5) (V m c main_v3) (V m c main_arg7) (V m c main_arg8) (V m c main_v4)

theorem point : ∃ t : Fin cfg0.N, t.val = 0 := ⟨⟨0, by decide +kernel⟩, rfl⟩

theorem value_array (c : Dev nD) : (dats m 0 c).arrAt 14 cfg0.N = fun y : S256x16384.Idx => value m c (y 0) (y 1) := by
  obtain ⟨t, ht⟩ := point
  refine (dats m 0 c).arrAt_eq_of_after_last 14 t ((by decide +kernel : ∀ t : Fin grid0.N, t.val = 0 → (cfg0.win 14).WholeAt t) t ht) _ fun y => ?_
  blk_simp
  rw [after0_14, blk_0, blk_1, blk_2, blk_3, blk_4, blk_5, blk_6, blk_7, blk_8, blk_9, blk_10, blk_11]
  exact out_value _ _ _ _ _ _ _ _ _ _ _ _ y
theorem lap_array (c : Dev nD) : (dats m 0 c).arrAt 15 cfg0.N = fun y : S256x16384.Idx => lap m c (y 0) (y 1) := by
  obtain ⟨t, ht⟩ := point
  refine (dats m 0 c).arrAt_eq_of_after_last 15 t ((by decide +kernel : ∀ t : Fin grid0.N, t.val = 0 → (cfg0.win 15).WholeAt t) t ht) _ fun y => ?_
  blk_simp
  rw [after0_15, blk_0, blk_1, blk_2, blk_3, blk_4, blk_5, blk_6, blk_7, blk_8, blk_9, blk_10, blk_11]
  exact out_lap _ _ _ _ _ _ _ _ _ _ _ _ y
theorem res_array (c : Dev nD) : (dats m 0 c).arrAt 12 cfg0.N = fun y : S256x1.Idx =>
    (∑ j : Fin 16384, lap m c (y 0) j * (show EReal from V m c main_v5 (ix2 0 j))) - (show EReal from V m c main_v1 (ix2 (y 0) 0)) := by
  obtain ⟨t, ht⟩ := point
  refine (dats m 0 c).arrAt_eq_of_after_last 12 t ((by decide +kernel : ∀ t : Fin grid0.N, t.val = 0 → (cfg0.win 12).WholeAt t) t ht) _ fun y => ?_
  blk_simp
  rw [after0_12, blk_0, blk_1, blk_2, blk_3, blk_4, blk_5, blk_6, blk_7, blk_8, blk_9, blk_10, blk_11]
  obtain ⟨p, rfl⟩ : ∃ p : Fin 256, y = ix2 p 0 := ⟨y 0, (eq_ix2 y).trans (congrArg (ix2 (y 0)) (Subsingleton.elim (α := Fin 1) _ _))⟩
  exact out_res _ _ _ _ _ _ _ _ _ _ _ _ p
theorem u_array (c : Dev nD) : (dats m 0 c).arrAt 13 cfg0.N = fun y : S256x1.Idx =>
    (∑ j : Fin 16384, value m c (y 0) j * (show EReal from V m c main_v5 (ix2 0 j))) + (show EReal from V m c main_v6 (ix2 0 0)) := by
  obtain ⟨t, ht⟩ := point
  refine (dats m 0 c).arrAt_eq_of_after_last 13 t ((by decide +kernel : ∀ t : Fin grid0.N, t.val = 0 → (cfg0.win 13).WholeAt t) t ht) _ fun y => ?_
  blk_simp
  rw [after0_13, blk_0, blk_1, blk_2, blk_3, blk_4, blk_5, blk_6, blk_7, blk_8, blk_9, blk_10, blk_11]
  obtain ⟨p, rfl⟩ : ∃ p : Fin 256, y = ix2 p 0 := ⟨y 0, (eq_ix2 y).trans (congrArg (ix2 (y 0)) (Subsingleton.elim (α := Fin 1) _ _))⟩
  exact out_u _ _ _ _ _ _ _ _ _ _ _ _ p

end Cert.ReferenceIdeal.Whole
end
-- ==== Proof.ReferenceIdeal.Results.lean ====
/- The reference's four results, read off the buffers at its return and written over the argument arrays. -/
module
public import proofs.«01_k».proof.Proof.ReferenceIdeal.Arrays
@[expose] public section
set_option maxRecDepth 16384
noncomputable section
namespace Cert.ReferenceIdeal.Whole
open Idealize.ShloMosaic Idealize.ShloMosaic.TcCoe Idealize.SL.Sem
open Cert.ReferenceIdeal Cert.ReferenceIdeal.Gen Cert.Network

variable (m : (ℓ : Loc nD τ sig) → Buf (Elt Ideal) ℓ) (ρ : Dev nD → PrngReg) (c : Dev nD)

/-! ## The arrays the computation enters with -/

theorem V_v0 : V m c main_v0 = shapeCast S256x3 (m ((c : Thread nD τ).loc main_arg0)) shapeCasts_S2x128x3_S256x3 := by
  show StableHlo.after hostOps0 _ _ = _
  after_results
  all_goals rfl
theorem V_v1 : V m c main_v1 = shapeCast S256x1 (m ((c : Thread nD τ).loc main_arg1)) shapeCasts_S2x128_S256x1 := by
  show StableHlo.after hostOps0 _ _ = _
  after_results
  all_goals rfl
theorem V_v2 : V m c main_v2 = shapeCast S1x16384 (m ((c : Thread nD τ).loc main_arg3)) shapeCasts_S16384_S1x16384 := by
  show StableHlo.after hostOps0 _ _ = _
  after_results
  all_goals rfl
theorem V_v3 : V m c main_v3 = shapeCast S1x2560 (m ((c : Thread nD τ).loc main_arg6)) shapeCasts_S2560_S1x2560 := by
  show StableHlo.after hostOps0 _ _ = _
  after_results
  all_goals rfl
theorem V_v4 : V m c main_v4 = shapeCast S1x16384 (m ((c : Thread nD τ).loc main_arg9)) shapeCasts_S16384_S1x16384 := by
  show StableHlo.after hostOps0 _ _ = _
  after_results
  all_goals rfl
theorem V_v5 : V m c main_v5 = shapeCast S1x16384 (m ((c : Thread nD τ).loc main_arg10)) shapeCasts_S16384_S1x16384 := by
  show StableHlo.after hostOps0 _ _ = _
  after_results
  all_goals rfl
theorem V_v6 : V m c main_v6 = shapeCast S1x1 (m ((c : Thread nD τ).loc main_arg11)) shapeCasts_S1_S1x1 := by
  show StableHlo.after hostOps0 _ _ = _
  after_results
  all_goals rfl

/-! ## The results -/

/-- The buffers when the computation ends and the last reshapes begin. -/
def ended : Valuation τ sig (Elt Ideal) :=
  Pipeline.withArrays spec0 c (V0 m c) fun w => (dats m 0 c).arrAt w cfg0.N

theorem ended_arr (w : Fin cfg0.W) : ended m c (Proc.devRef .tc (Pipeline.arrRef spec0 w)) = (dats m 0 c).arrAt w cfg0.N :=
  Pipeline.withArrays_arr spec0 (by decide) c _ _ w

theorem tail_v8 : Pipeline.afterTail₀ cfgs (dats m) 0 (V0 m) [hostOps1] c main_v8
    = shapeCast S2x128 (fun y : S256x1.Idx =>
      ((∑ j : Fin 16384, lap m c (y 0) j * (show EReal from V m c main_v5 (ix2 0 j))) - (show EReal from V m c main_v1 (ix2 (y 0) 0)) : EReal)) shapeCasts_S256x1_S2x128 := by
  refine Eq.trans ?_ (congrArg (fun x => shapeCast S2x128 x shapeCasts_S256x1_S2x128) ((ended_arr m c 12).trans (res_array m c)))
  show StableHlo.after hostOps1 (ended m c) _ = _
  after_results
  all_goals rfl

theorem tail_v9 : Pipeline.afterTail₀ cfgs (dats m) 0 (V0 m) [hostOps1] c main_v9
    = shapeCast S2x128 (fun y : S256x1.Idx =>
      ((∑ j : Fin 16384, value m c (y 0) j * (show EReal from V m c main_v5 (ix2 0 j))) + (show EReal from V m c main_v6 (ix2 0 0)) : EReal)) shapeCasts_S256x1_S2x128 := by
  refine Eq.trans ?_ (congrArg (fun x => shapeCast S2x128 x shapeCasts_S256x1_S2x128) ((ended_arr m c 13).trans (u_array m c)))
  show StableHlo.after hostOps1 (ended m c) _ = _
  after_results
  all_goals rfl

theorem tail_v10 : Pipeline.afterTail₀ cfgs (dats m) 0 (V0 m) [hostOps1] c main_v10
    = shapeCast S2x128x16384 (fun y : S256x16384.Idx => value m c (y 0) (y 1)) shapeCasts_S256x16384_S2x128x16384 := by
  refine Eq.trans ?_ (congrArg (fun x => shapeCast S2x128x16384 x shapeCasts_S256x16384_S2x128x16384) ((ended_arr m c 14).trans (value_array m c)))
  show StableHlo.after hostOps1 (ended m c) _ = _
  after_results
  all_goals rfl

theorem tail_v11 : Pipeline.afterTail₀ cfgs (dats m) 0 (V0 m) [hostOps1] c main_v11
    = shapeCast S2x128x16384 (fun y : S256x16384.Idx => lap m c (y 0) (y 1)) shapeCasts_S256x16384_S2x128x16384 := by
  refine Eq.trans ?_ (congrArg (fun x => shapeCast S2x128x16384 x shapeCasts_S256x16384_S2x128x16384) ((ended_arr m c 15).trans (lap_array m c)))
  show StableHlo.after hostOps1 (ended m c) _ = _
  after_results
  all_goals rfl

end Cert.ReferenceIdeal.Whole
end
-- ==== Proof.Algebraic.lean ====
/- In exact arithmetic the kernel and the reference end with the same four results. -/
module
public import proofs.«01_k».proof.Defs
public import proofs.«01_k».proof.Proof.KernelIdeal.Results
public import proofs.«01_k».proof.Proof.ReferenceIdeal.Results
@[expose] public section
set_option maxRecDepth 16384
noncomputable section
namespace Cert.Algebraic
open Idealize.ShloMosaic Idealize.ShloMosaic.TcCoe Idealize.SL.Sem
open Cert.Network

/-- The two memories agree on the twelve arguments, on device `c`. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  (g : Dev Cert.KernelIdeal.nD → PrngReg) {c : Dev Cert.KernelIdeal.nD}

/-! ## The arrays the two programs compute from are the same arrays -/

section Entries
variable (h : Agree m m' c)
include h

theorem entry_x : Cert.KernelIdeal.Whole.V1 m g c Cert.KernelIdeal.main_v0 = Cert.ReferenceIdeal.Gen.V m' c Cert.ReferenceIdeal.main_v0 :=
  (Cert.KernelIdeal.Whole.V1_v0 m g c).trans
    ((congrArg (fun x => shapeCast _ x _) h.1.symm).trans (Cert.ReferenceIdeal.Whole.V_v0 m' c).symm)
theorem entry_b0 : Cert.KernelIdeal.Whole.V1 m g c Cert.KernelIdeal.main_v1 = Cert.ReferenceIdeal.Gen.V m' c Cert.ReferenceIdeal.main_v2 :=
  (Cert.KernelIdeal.Whole.V1_v1 m g c).trans
    ((congrArg (fun x => shapeCast _ x _) h.2.2.2.1.symm).trans (Cert.ReferenceIdeal.Whole.V_v2 m' c).symm)
theorem entry_b1 : Cert.KernelIdeal.Whole.V1 m g c Cert.KernelIdeal.main_v2 = Cert.ReferenceIdeal.Gen.V m' c Cert.ReferenceIdeal.main_v3 :=
  (Cert.KernelIdeal.Whole.V1_v2 m g c).trans
    ((congrArg (fun x => shapeCast _ x _) h.2.2.2.2.2.2.1.symm).trans (Cert.ReferenceIdeal.Whole.V_v3 m' c).symm)
theorem entry_b2 : Cert.KernelIdeal.Whole.V3 m g c Cert.KernelIdeal.main_v4 = Cert.ReferenceIdeal.Gen.V m' c Cert.ReferenceIdeal.main_v4 :=
  (Cert.KernelIdeal.Whole.V3_v4 m g c).trans
    ((congrArg (fun x => shapeCast _ x _) h.2.2.2.2.2.2.2.2.2.1.symm).trans (Cert.ReferenceIdeal.Whole.V_v4 m' c).symm)
theorem entry_wo : Cert.KernelIdeal.Whole.V3 m g c Cert.KernelIdeal.main_v5 = Cert.ReferenceIdeal.Gen.V m' c Cert.ReferenceIdeal.main_v5 :=
  (Cert.KernelIdeal.Whole.V3_v5 m g c).trans
    ((congrArg (fun x => shapeCast _ x _) h.2.2.2.2.2.2.2.2.2.2.1.symm).trans (Cert.ReferenceIdeal.Whole.V_v5 m' c).symm)
theorem entry_f : Cert.KernelIdeal.Whole.V3 m g c Cert.KernelIdeal.main_v6 = Cert.ReferenceIdeal.Gen.V m' c Cert.ReferenceIdeal.main_v1 :=
  (Cert.KernelIdeal.Whole.V3_v6 m g c).trans
    ((congrArg (fun x => shapeCast _ x _) h.2.1.symm).trans (Cert.ReferenceIdeal.Whole.V_v1 m' c).symm)
theorem entry_bo : Cert.KernelIdeal.Whole.V3 m g c Cert.KernelIdeal.main_v7 = Cert.ReferenceIdeal.Gen.V m' c Cert.ReferenceIdeal.main_v6 :=
  (Cert.KernelIdeal.Whole.V3_v7 m g c).trans
    ((congrArg (fun x => shapeCast _ x _) h.2.2.2.2.2.2.2.2.2.2.2.symm).trans (Cert.ReferenceIdeal.Whole.V_v6 m' c).symm)
theorem entry_w0 : Cert.KernelIdeal.Whole.V1 m g c Cert.KernelIdeal.main_arg2 = Cert.ReferenceIdeal.Gen.V m' c Cert.ReferenceIdeal.main_arg2 :=
  (Cert.KernelIdeal.Whole.W1_args m g c Cert.KernelIdeal.main_arg2 (by decide)).trans
    (h.2.2.1.symm.trans (Cert.ReferenceIdeal.Gen.V_main_arg2 m' c).symm)
theorem entry_w1 : Cert.KernelIdeal.Whole.V1 m g c Cert.KernelIdeal.main_arg4 = Cert.ReferenceIdeal.Gen.V m' c Cert.ReferenceIdeal.main_arg4 :=
  (Cert.KernelIdeal.Whole.W1_args m g c Cert.KernelIdeal.main_arg4 (by decide)).trans
    (h.2.2.2.2.1.symm.trans (Cert.ReferenceIdeal.Gen.V_main_arg4 m' c).symm)
theorem entry_s1 : Cert.KernelIdeal.Whole.V1 m g c Cert.KernelIdeal.main_arg5 = Cert.ReferenceIdeal.Gen.V m' c Cert.ReferenceIdeal.main_arg5 :=
  (Cert.KernelIdeal.Whole.W1_args m g c Cert.KernelIdeal.main_arg5 (by decide)).trans
    (h.2.2.2.2.2.1.symm.trans (Cert.ReferenceIdeal.Gen.V_main_arg5 m' c).symm)
theorem entry_w2 : Cert.KernelIdeal.Whole.V3 m g c Cert.KernelIdeal.main_arg7 = Cert.ReferenceIdeal.Gen.V m' c Cert.ReferenceIdeal.main_arg7 :=
  (Cert.KernelIdeal.Whole.W3_args m g c Cert.KernelIdeal.main_arg7 (by decide)).trans
    (h.2.2.2.2.2.2.2.1.symm.trans (Cert.ReferenceIdeal.Gen.V_main_arg7 m' c).symm)
theorem entry_s2 : Cert.KernelIdeal.Whole.V3 m g c Cert.KernelIdeal.main_arg8 = Cert.ReferenceIdeal.Gen.V m' c Cert.ReferenceIdeal.main_arg8 :=
  (Cert.KernelIdeal.Whole.W3_args m g c Cert.KernelIdeal.main_arg8 (by decide)).trans
    (h.2.2.2.2.2.2.2.2.1.symm.trans (Cert.ReferenceIdeal.Gen.V_main_arg8 m' c).symm)
end Entries

/-! ## So are the results -/

/-- The first layer's output. -/
theorem layer_eq (h : Agree m m' c) : (fun r k => Cert.KernelIdeal.Whole.layer1 (Cert.KernelIdeal.Whole.V1 m g) c r k)
    = Cert.ReferenceIdeal.Whole.layer (Cert.ReferenceIdeal.Gen.V m' c Cert.ReferenceIdeal.main_v0) (Cert.ReferenceIdeal.Gen.V m' c Cert.ReferenceIdeal.main_arg2)
      (Cert.ReferenceIdeal.Gen.V m' c Cert.ReferenceIdeal.main_v2) (Cert.ReferenceIdeal.Gen.V m' c Cert.ReferenceIdeal.main_arg4)
      (Cert.ReferenceIdeal.Gen.V m' c Cert.ReferenceIdeal.main_arg5) (Cert.ReferenceIdeal.Gen.V m' c Cert.ReferenceIdeal.main_v3) := by
  unfold Cert.KernelIdeal.Whole.layer1 Cert.KernelIdeal.Whole.product1 Cert.KernelIdeal.Whole.streams1
  rw [entry_x g h, entry_w0 g h, entry_b0 g h, entry_w1 g h, entry_s1 g h, entry_b1 g h]
  rfl

/-- The last layer's scaled product. -/
theorem product_eq (h : Agree m m' c) : Cert.KernelIdeal.Whole.product2 (Cert.KernelIdeal.Whole.V3 m g) c
    = Cert.ReferenceIdeal.Whole.productLast (Cert.ReferenceIdeal.Gen.V m' c Cert.ReferenceIdeal.main_v0) (Cert.ReferenceIdeal.Gen.V m' c Cert.ReferenceIdeal.main_arg2)
      (Cert.ReferenceIdeal.Gen.V m' c Cert.ReferenceIdeal.main_v2) (Cert.ReferenceIdeal.Gen.V m' c Cert.ReferenceIdeal.main_arg4)
      (Cert.ReferenceIdeal.Gen.V m' c Cert.ReferenceIdeal.main_arg5) (Cert.ReferenceIdeal.Gen.V m' c Cert.ReferenceIdeal.main_v3)
      (Cert.ReferenceIdeal.Gen.V m' c Cert.ReferenceIdeal.main_arg7) (Cert.ReferenceIdeal.Gen.V m' c Cert.ReferenceIdeal.main_arg8) := by
  unfold Cert.KernelIdeal.Whole.product2 Cert.ReferenceIdeal.Whole.productLast
  rw [← layer_eq g h, Cert.KernelIdeal.Whole.V3_v3 m g c, entry_w2 g h, entry_s2 g h]
  rfl

/-- The last layer's values. -/
theorem value_eq (h : Agree m m' c) : Cert.KernelIdeal.Whole.value2 (Cert.KernelIdeal.Whole.V3 m g) c = Cert.ReferenceIdeal.Whole.value m' c := by
  unfold Cert.KernelIdeal.Whole.value2
  rw [product_eq g h, entry_b2 g h]
  rfl
/-- The last layer's Laplacians. -/
theorem lap_eq (h : Agree m m' c) : Cert.KernelIdeal.Whole.lap2 (Cert.KernelIdeal.Whole.V3 m g) c = Cert.ReferenceIdeal.Whole.lap m' c := by
  unfold Cert.KernelIdeal.Whole.lap2
  rw [product_eq g h, entry_b2 g h]
  rfl

/-- The residual: the Laplacian's dot product with the output weights, less the right-hand side. -/
theorem residual_eq (h : Agree m m' c) : Cert.KernelIdeal.Whole.W5 m g c Cert.KernelIdeal.main_v11 = shapeCast Cert.ReferenceIdeal.S2x128
    (fun y : Cert.ReferenceIdeal.S256x1.Idx => ((∑ j : Fin 16384, Cert.ReferenceIdeal.Whole.lap m' c (y 0) j * (show EReal from Cert.ReferenceIdeal.Gen.V m' c Cert.ReferenceIdeal.main_v5 (ix2 0 j))) - (show EReal from Cert.ReferenceIdeal.Gen.V m' c Cert.ReferenceIdeal.main_v1 (ix2 (y 0) 0)) : EReal)) Cert.ReferenceIdeal.Gen.shapeCasts_S256x1_S2x128 := by
  refine (Cert.KernelIdeal.Whole.W5_v11 m g c).trans ?_
  unfold Cert.KernelIdeal.Whole.sumL
  rw [lap_eq g h, entry_wo g h, entry_f g h]

/-- The network's value: the dot product with the output weights, plus the output bias. -/
theorem network_eq (h : Agree m m' c) : Cert.KernelIdeal.Whole.W5 m g c Cert.KernelIdeal.main_v15 = shapeCast Cert.ReferenceIdeal.S2x128
    (fun y : Cert.ReferenceIdeal.S256x1.Idx => ((∑ j : Fin 16384, Cert.ReferenceIdeal.Whole.value m' c (y 0) j * (show EReal from Cert.ReferenceIdeal.Gen.V m' c Cert.ReferenceIdeal.main_v5 (ix2 0 j))) + (show EReal from Cert.ReferenceIdeal.Gen.V m' c Cert.ReferenceIdeal.main_v6 (ix2 0 0)) : EReal)) Cert.ReferenceIdeal.Gen.shapeCasts_S256x1_S2x128 := by
  refine (Cert.KernelIdeal.Whole.W5_v15 m g c).trans ?_
  unfold Cert.KernelIdeal.Whole.sumU
  rw [value_eq g h, entry_wo g h, entry_bo g h]

/-- The last layer's values. -/
theorem hidden_eq (h : Agree m m' c) : Cert.KernelIdeal.Whole.W5 m g c Cert.KernelIdeal.main_v16 = shapeCast Cert.ReferenceIdeal.S2x128x16384
    (fun y : Cert.ReferenceIdeal.S256x16384.Idx => Cert.ReferenceIdeal.Whole.value m' c (y 0) (y 1)) Cert.ReferenceIdeal.Gen.shapeCasts_S256x16384_S2x128x16384 := by
  refine (Cert.KernelIdeal.Whole.W5_v16 m g c).trans ?_
  rw [value_eq g h]

/-- The last layer's Laplacians. -/
theorem laplacian_eq (h : Agree m m' c) : Cert.KernelIdeal.Whole.W5 m g c Cert.KernelIdeal.main_v17 = shapeCast Cert.ReferenceIdeal.S2x128x16384
    (fun y : Cert.ReferenceIdeal.S256x16384.Idx => Cert.ReferenceIdeal.Whole.lap m' c (y 0) (y 1)) Cert.ReferenceIdeal.Gen.shapeCasts_S256x16384_S2x128x16384 := by
  refine (Cert.KernelIdeal.Whole.W5_v17 m g c).trans ?_
  rw [lap_eq g h]

/-- From memories that agree on the arguments, the kernel and the reference both end with the same four results and
with their arguments as they were. -/
theorem algebraic [Cert.KernelIdeal.Facts] [Cert.ReferenceIdeal.Facts] : Cert.algebraic_KernelIdeal_ReferenceIdeal := by
  intro m g m' g' hpre hagree
  refine ⟨fun c => Cert.KernelIdeal.Whole.W5 m g c Cert.KernelIdeal.main_v11, fun c => Cert.KernelIdeal.Whole.W5 m g c Cert.KernelIdeal.main_v15,
    fun c => Cert.KernelIdeal.Whole.W5 m g c Cert.KernelIdeal.main_v16, fun c => Cert.KernelIdeal.Whole.W5 m g c Cert.KernelIdeal.main_v17, ?_, ?_⟩
  · exact (θ_run Cert.KernelIdeal.defs _ _).mono (fun _ h c =>
      ⟨h.1 c _ (Cert.KernelIdeal.Whole.mem_uc Cert.KernelIdeal.main_v11 (by decide)),
      h.1 c _ (Cert.KernelIdeal.Whole.mem_uc Cert.KernelIdeal.main_v15 (by decide)),
      h.1 c _ (Cert.KernelIdeal.Whole.mem_uc Cert.KernelIdeal.main_v16 (by decide)),
      h.1 c _ (Cert.KernelIdeal.Whole.mem_uc Cert.KernelIdeal.main_v17 (by decide)),
      (h.1 c _ (Cert.KernelIdeal.Whole.mem_uc Cert.KernelIdeal.main_arg0 (by decide))).trans (Cert.KernelIdeal.Whole.W5_main_arg0 m g c),
      (h.1 c _ (Cert.KernelIdeal.Whole.mem_uc Cert.KernelIdeal.main_arg1 (by decide))).trans (Cert.KernelIdeal.Whole.W5_main_arg1 m g c),
      (h.1 c _ (Cert.KernelIdeal.Whole.mem_uc Cert.KernelIdeal.main_arg2 (by decide))).trans (Cert.KernelIdeal.Whole.W5_main_arg2 m g c),
      (h.1 c _ (Cert.KernelIdeal.Whole.mem_uc Cert.KernelIdeal.main_arg3 (by decide))).trans (Cert.KernelIdeal.Whole.W5_main_arg3 m g c),
      (h.1 c _ (Cert.KernelIdeal.Whole.mem_uc Cert.KernelIdeal.main_arg4 (by decide))).trans (Cert.KernelIdeal.Whole.W5_main_arg4 m g c),
      (h.1 c _ (Cert.KernelIdeal.Whole.mem_uc Cert.KernelIdeal.main_arg5 (by decide))).trans (Cert.KernelIdeal.Whole.W5_main_arg5 m g c),
      (h.1 c _ (Cert.KernelIdeal.Whole.mem_uc Cert.KernelIdeal.main_arg6 (by decide))).trans (Cert.KernelIdeal.Whole.W5_main_arg6 m g c),
      (h.1 c _ (Cert.KernelIdeal.Whole.mem_uc Cert.KernelIdeal.main_arg7 (by decide))).trans (Cert.KernelIdeal.Whole.W5_main_arg7 m g c),
      (h.1 c _ (Cert.KernelIdeal.Whole.mem_uc Cert.KernelIdeal.main_arg8 (by decide))).trans (Cert.KernelIdeal.Whole.W5_main_arg8 m g c),
      (h.1 c _ (Cert.KernelIdeal.Whole.mem_uc Cert.KernelIdeal.main_arg9 (by decide))).trans (Cert.KernelIdeal.Whole.W5_main_arg9 m g c),
      (h.1 c _ (Cert.KernelIdeal.Whole.mem_uc Cert.KernelIdeal.main_arg10 (by decide))).trans (Cert.KernelIdeal.Whole.W5_main_arg10 m g c),
      (h.1 c _ (Cert.KernelIdeal.Whole.mem_uc Cert.KernelIdeal.main_arg11 (by decide))).trans (Cert.KernelIdeal.Whole.W5_main_arg11 m g c)⟩) (Cert.KernelIdeal.Whole.run_main m g)
  · run_from Cert.ReferenceIdeal.Gen.run_main m' g'
    · exact (Cert.ReferenceIdeal.Whole.tail_v8 m' c).trans (residual_eq g (hagree c)).symm
    · exact (Cert.ReferenceIdeal.Whole.tail_v9 m' c).trans (network_eq g (hagree c)).symm
    · exact (Cert.ReferenceIdeal.Whole.tail_v10 m' c).trans (hidden_eq g (hagree c)).symm
    · exact (Cert.ReferenceIdeal.Whole.tail_v11 m' c).trans (laplacian_eq g (hagree c)).symm
    · exact (Cert.ReferenceIdeal.Gen.W_main_arg0 m' (Cert.ReferenceIdeal.Gen.dats m') c).trans (hagree c).1
    · exact (Cert.ReferenceIdeal.Gen.W_main_arg1 m' (Cert.ReferenceIdeal.Gen.dats m') c).trans (hagree c).2.1
    · exact (Cert.ReferenceIdeal.Gen.W_main_arg3 m' (Cert.ReferenceIdeal.Gen.dats m') c).trans (hagree c).2.2.2.1
    · exact (Cert.ReferenceIdeal.Gen.W_main_arg6 m' (Cert.ReferenceIdeal.Gen.dats m') c).trans (hagree c).2.2.2.2.2.2.1
    · exact (Cert.ReferenceIdeal.Gen.W_main_arg9 m' (Cert.ReferenceIdeal.Gen.dats m') c).trans (hagree c).2.2.2.2.2.2.2.2.2.1
    · exact (Cert.ReferenceIdeal.Gen.W_main_arg10 m' (Cert.ReferenceIdeal.Gen.dats m') c).trans (hagree c).2.2.2.2.2.2.2.2.2.2.1
    · exact (Cert.ReferenceIdeal.Gen.W_main_arg11 m' (Cert.ReferenceIdeal.Gen.dats m') c).trans (hagree c).2.2.2.2.2.2.2.2.2.2.2
end Cert.Algebraic
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Whole.frame m ρ,
  fun m ρ _ => Cert.KernelIdeal.Whole.frame m ρ,
  fun m ρ _ => Cert.ReferenceIdeal.Gen.frame m ρ,
  trivial,
  Cert.Algebraic.algebraic⟩

end Cert.Proof

end
